-- ==== Defs.lean ====
def Pre_Kernel [hPre_swapped_Kernel : Cert.Pre_swapped_Kernel.Facts] (m : (ℓ : Loc Cert.Kernel.nD Cert.Kernel.τ Cert.Kernel.sig) → Buf (Elt Bits) ℓ) : Prop :=
  ∀ c : Dev Cert.Kernel.nD,
    (Cert.Pre_swapped_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_in_place_Kernel [hPre_in_place_Kernel : Cert.Pre_in_place_Kernel.Facts] (m : (ℓ : Loc Cert.Kernel.nD Cert.Kernel.τ Cert.Kernel.sig) → Buf (Elt Bits) ℓ) : Prop :=
  ∀ c : Dev Cert.Kernel.nD,
    (Cert.Pre_in_place_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_swapped_Kernel : Cert.Pre_swapped_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_swapped_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_in_place_Kernel [hPre_in_place_Kernel : Cert.Pre_in_place_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_in_place_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_swapped_ReferenceIdeal [hPre_swapped_ReferenceIdeal : Cert.Pre_swapped_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_swapped_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_in_place_ReferenceIdeal [hPre_in_place_ReferenceIdeal : Cert.Pre_in_place_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_place_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_swapped_Kernel : Cert.Pre_swapped_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_in_place_Kernel [hKernel : Cert.Kernel.Facts] [hPre_in_place_Kernel : Cert.Pre_in_place_Kernel.Facts] : Prop :=
  ∀ (m : (ℓ : Loc Cert.Kernel.nD Cert.Kernel.τ Cert.Kernel.sig) → Buf (Elt Bits) ℓ) (g : Dev Cert.Kernel.nD → PrngReg), Pre_Kernel_in_place_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_swapped_Kernel : Cert.Pre_swapped_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_in_place_Kernel [hKernelIdeal : Cert.KernelIdeal.Facts] [hPre_in_place_Kernel : Cert.Pre_in_place_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_place_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_swapped_ReferenceIdeal [hReferenceIdeal : Cert.ReferenceIdeal.Facts] [hPre_swapped_ReferenceIdeal : Cert.Pre_swapped_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_swapped_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_place_ReferenceIdeal [hReferenceIdeal : Cert.ReferenceIdeal.Facts] [hPre_in_place_ReferenceIdeal : Cert.Pre_in_place_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_place_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_swapped_Kernel : Cert.Pre_swapped_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 256, 256]⟩ ⟨3, ![2, 256, 256]⟩ (Layout.meshBlock [2, 4, 4] ![[0], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 256, 256]⟩ ⟨3, ![2, 256, 256]⟩ (Layout.meshBlock [2, 4, 4] ![[0], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_in_place_Kernel [hKernelIdeal : Cert.KernelIdeal.Facts] [hReferenceIdeal : Cert.ReferenceIdeal.Facts] [hPre_in_place_Kernel : Cert.Pre_in_place_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_place_Kernel m →
    (∀ c : Dev Cert.KernelIdeal.nD,
      m ((c.tc : Thread Cert.KernelIdeal.nD Cert.KernelIdeal.τ).loc Cert.KernelIdeal.main_arg0) = Layout.blockN ⟨3, ![1, 256, 256]⟩ ⟨3, ![2, 256, 256]⟩ (Layout.meshBlock [2, 4, 4] ![[0], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 256, 256]⟩ ⟨3, ![2, 256, 256]⟩ (Layout.meshBlock [2, 4, 4] ![[0], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_swapped_Kernel : Cert.Pre_swapped_Kernel.Facts) (hPre_in_place_Kernel : Cert.Pre_in_place_Kernel.Facts) (hPre_swapped_ReferenceIdeal : Cert.Pre_swapped_ReferenceIdeal.Facts) (hPre_in_place_ReferenceIdeal : Cert.Pre_in_place_ReferenceIdeal.Facts),
    quiescent_Kernel (hKernel := hKernel) (hPre_swapped_Kernel := hPre_swapped_Kernel)
    ∧ quiescent_Kernel_pre_in_place_Kernel (hKernel := hKernel) (hPre_in_place_Kernel := hPre_in_place_Kernel)
    ∧ quiescent_KernelIdeal (hKernelIdeal := hKernelIdeal) (hPre_swapped_Kernel := hPre_swapped_Kernel)
    ∧ quiescent_KernelIdeal_pre_in_place_Kernel (hKernelIdeal := hKernelIdeal) (hPre_in_place_Kernel := hPre_in_place_Kernel)
    ∧ quiescent_ReferenceIdeal (hReferenceIdeal := hReferenceIdeal)
    ∧ quiescent_ReferenceIdeal_pre_swapped_ReferenceIdeal (hReferenceIdeal := hReferenceIdeal) (hPre_swapped_ReferenceIdeal := hPre_swapped_ReferenceIdeal)
    ∧ quiescent_ReferenceIdeal_pre_in_place_ReferenceIdeal (hReferenceIdeal := hReferenceIdeal) (hPre_in_place_ReferenceIdeal := hPre_in_place_ReferenceIdeal)
    ∧ preserves_Kernel_KernelIdeal
    ∧ algebraic_KernelIdeal_ReferenceIdeal (hKernelIdeal := hKernelIdeal) (hReferenceIdeal := hReferenceIdeal) (hPre_swapped_Kernel := hPre_swapped_Kernel)
    ∧ algebraic_KernelIdeal_ReferenceIdeal_pre_in_place_Kernel (hKernelIdeal := hKernelIdeal) (hReferenceIdeal := hReferenceIdeal) (hPre_in_place_Kernel := hPre_in_place_Kernel)
-- ==== Pre_in_place_Kernel.lean ====
abbrev S1x256x256 : Shape := ⟨3, ![1, 256, 256]⟩
abbrev S2 : Shape := ⟨1, ![2]⟩

class Facts : Prop where

variable [Facts]

noncomputable abbrev lit0 : Fin 2 → BitVec 32 := fun
  | 0 => 0#32 | 1 => 1#32
  | _ => 0#32

def fn {F : FTy → Type} [FloatOps F] (main_arg0 : FVec F S1x256x256 .bf16) (main_arg1 : IVec S2 32) : IVec S2 1 :=
  let main_c : IVec S2 32 := fun i => lit0 (S2.rowMajor i)
  let main_v0 : IVec S2 1 := cmpi .eq main_arg1 main_c
  main_v0
-- ==== Pre_in_place_ReferenceIdeal.lean ====
abbrev S2x256x256 : Shape := ⟨3, ![2, 256, 256]⟩
abbrev S2 : Shape := ⟨1, ![2]⟩

class Facts : Prop where

variable [Facts]

noncomputable abbrev lit0 : Fin 2 → BitVec 32 := fun
  | 0 => 0#32 | 1 => 1#32
  | _ => 0#32

def fn {F : FTy → Type} [FloatOps F] (main_arg0 : FVec F S2x256x256 .bf16) (main_arg1 : IVec S2 32) : IVec S2 1 :=
  let main_c : IVec S2 32 := fun i => lit0 (S2.rowMajor i)
  let main_v0 : IVec S2 1 := cmpi .eq main_arg1 main_c
  main_v0
-- ==== Pre_swapped_Kernel.lean ====
abbrev S1x256x256 : Shape := ⟨3, ![1, 256, 256]⟩
abbrev S2 : Shape := ⟨1, ![2]⟩

class Facts : Prop where

variable [Facts]

noncomputable abbrev lit0 : Fin 2 → BitVec 32 := fun
  | 0 => 1#32 | 1 => 0#32
  | _ => 0#32

def fn {F : FTy → Type} [FloatOps F] (main_arg0 : FVec F S1x256x256 .bf16) (main_arg1 : IVec S2 32) : IVec S2 1 :=
  let main_c : IVec S2 32 := fun i => lit0 (S2.rowMajor i)
  let main_v0 : IVec S2 1 := cmpi .eq main_arg1 main_c
  main_v0
-- ==== Pre_swapped_ReferenceIdeal.lean ====
abbrev S2x256x256 : Shape := ⟨3, ![2, 256, 256]⟩
abbrev S2 : Shape := ⟨1, ![2]⟩

class Facts : Prop where

variable [Facts]

noncomputable abbrev lit0 : Fin 2 → BitVec 32 := fun
  | 0 => 1#32 | 1 => 0#32
  | _ => 0#32

def fn {F : FTy → Type} [FloatOps F] (main_arg0 : FVec F S2x256x256 .bf16) (main_arg1 : IVec S2 32) : IVec S2 1 :=
  let main_c : IVec S2 32 := fun i => lit0 (S2.rowMajor i)
  let main_v0 : IVec S2 1 := cmpi .eq main_arg1 main_c
  main_v0
-- ==== Kernel.lean ====
abbrev S1x256x256 : Shape := ⟨3, ![1, 256, 256]⟩
abbrev S2 : Shape := ⟨1, ![2]⟩
abbrev S_ : Shape := ⟨0, ![]⟩
abbrev S1 : Shape := ⟨1, ![1]⟩

abbrev nBuf : Space → Nat
  | .hbm => 3
  | .vmem => 3
  | .smem => 1
  | _ => 0

abbrev bufTy : (tb : Table) → Fin (tcTables nBuf tb) → BufTy
  | .hbm, ⟨0, _⟩ => ⟨S1x256x256, .bf16⟩
  | .hbm, ⟨1, _⟩ => ⟨S2, .i32⟩
  | .hbm, ⟨2, _⟩ => ⟨S1x256x256, .bf16⟩
  | .local _ .vmem, ⟨0, _⟩ => ⟨S1x256x256, .bf16⟩
  | .local _ .vmem, ⟨1, _⟩ => ⟨S1x256x256, .bf16⟩
  | .local _ .vmem, ⟨2, _⟩ => ⟨S1x256x256, .bf16⟩
  | .local _ .smem, ⟨0, _⟩ => ⟨S2, .i32⟩
  | _, _ => ⟨S1x256x256, .bf16⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | _, _ => false

abbrev semScoped : Fin 1 → Bool
  | ⟨0, _⟩ => false
  | _ => false

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  (ofTc nBuf bufTy 1 5 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg2_0 : Ref sig .tc := ⟨.vmem, 1, rfl⟩
abbrev cc0_scratch0 : Ref sig .tc := ⟨.vmem, 2, rfl⟩
abbrev cc0_stg1_0 : Ref sig .tc := ⟨.smem, 0, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_off1 (d0 : Dev nD) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : Index := Scalar.indexCast v2
  ![v9.toNat]
def k0_dev1 (d0 : Dev nD) : Nat :=
  let c0_i32 : BitVec 32 := 0#32
  let c1_i32_7 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v17 : BitVec 32 := Scalar.subi c1_i32_7 v2
  let c16_i32_9 : BitVec 32 := 16#32
  let v18 : BitVec 32 := Scalar.muli v17 c16_i32_9
  let v19 : BitVec 32 := Scalar.addi c0_i32 v18
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_10 : BitVec 32 := 4#32
  let v20 : BitVec 32 := Scalar.muli v5 c4_i32_10
  let v21 : BitVec 32 := Scalar.addi v19 v20
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_11 : BitVec 32 := 1#32
  let v22 : BitVec 32 := Scalar.muli v8 c1_i32_11
  let v23 : BitVec 32 := Scalar.addi v21 v22
  v23.toNat
def k0_dev2 (d0 : Dev nD) (v10 : BitVec 32) : Nat :=
  let c0_i32_16 : BitVec 32 := 0#32
  let c16_i32_15 : BitVec 32 := 16#32
  let v30 : BitVec 32 := Scalar.muli v10 c16_i32_15
  let v31 : BitVec 32 := Scalar.addi c0_i32_16 v30
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_17 : BitVec 32 := 4#32
  let v32 : BitVec 32 := Scalar.muli v5 c4_i32_17
  let v33 : BitVec 32 := Scalar.addi v31 v32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_18 : BitVec 32 := 1#32
  let v34 : BitVec 32 := Scalar.muli v8 c1_i32_18
  let v35 : BitVec 32 := Scalar.addi v33 v34
  v35.toNat
def k0_cond2 (d0 : Dev nD) (v10 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v27 : BitVec 1 := Scalar.cmpi .ne v10 v2
  let v28 : BitVec 32 := Scalar.extui v27
  let c0_i32_14 : BitVec 32 := 0#32
  let v29 : BitVec 1 := Scalar.cmpi .ne v28 c0_i32_14
  v29

def k0_chk1 (d0 : Dev nD) (v10 : BitVec 32) : Prop :=
  (∀ (k0_h2 : k0_cond2 d0 v10 = 1#1), (k0_dev2 d0 v10) < nD)
theorem k0_dev2_lt : ∀ (d0 : Dev nD) (v10 : BitVec 32) (k0_hw1 : k0_chk1 d0 v10), ∀ (k0_h2 : k0_cond2 d0 v10 = 1#1), (k0_dev2 d0 v10) < nD := fun d0 v10 k0_hw1 k0_h2 => k0_hw1 k0_h2

abbrev stage0_0 : Fin 1 → Memref sig .tc .vmem S1x256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S2 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2x256x256 : Shape := ⟨3, ![2, 256, 256]⟩
abbrev S2 : Shape := ⟨1, ![2]⟩
abbrev S_ : Shape := ⟨0, ![]⟩
abbrev S2x1 : Shape := ⟨2, ![2, 1]⟩

abbrev nBuf : Space → Nat
  | .hbm => 16
  | .vmem => 0
  | .smem => 0
  | _ => 0

abbrev bufTy : (tb : Table) → Fin (tcTables nBuf tb) → BufTy
  | .hbm, ⟨0, _⟩ => ⟨S2x256x256, .bf16⟩
  | .hbm, ⟨1, _⟩ => ⟨S2, .i32⟩
  | .hbm, ⟨2, _⟩ => ⟨S2, .i32⟩
  | .hbm, ⟨3, _⟩ => ⟨S2, .i32⟩
  | .hbm, ⟨4, _⟩ => ⟨S2, .i32⟩
  | .hbm, ⟨5, _⟩ => ⟨S_, .i32⟩
  | .hbm, ⟨6, _⟩ => ⟨S2, .i32⟩
  | .hbm, ⟨7, _⟩ => ⟨S2, .i1⟩
  | .hbm, ⟨8, _⟩ => ⟨S_, .i32⟩
  | .hbm, ⟨9, _⟩ => ⟨S2, .i32⟩
  | .hbm, ⟨10, _⟩ => ⟨S2, .i32⟩
  | .hbm, ⟨11, _⟩ => ⟨S2, .i32⟩
  | .hbm, ⟨12, _⟩ => ⟨S2x1, .i32⟩
  | .hbm, ⟨13, _⟩ => ⟨S2x256x256, .bf16⟩
  | .hbm, ⟨14, _⟩ => ⟨S2x256x256, .f32⟩
  | .hbm, ⟨15, _⟩ => ⟨S2x256x256, .bf16⟩
  | _, _ => ⟨S2x256x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Proof.Protocol.lean ====
/-
# The exchange as a protocol

Two devices that agree in `y` and `z` and differ in `x` are PARTNERS. Each tells the other's barrier semaphore that it
has entered the kernel and waits to be told the same. The routing table then sends both blocks across (`swapped`) or
keeps both where they are (`in_place`); `sw : Bool` says which, and every definition below is stated for both at once.

Each device has three semaphore cells, all of one round:

* cell 0, its barrier. The partner raises it by one. When the blocks cross, that unit carries the partner's output
  buffer, which the device is about to write, and the fact that the partner's receive cell is at round 0.
* cell 1, its send semaphore. Its own transfer raises it by the block's credit, handing the send buffer back.
* cell 2, its receive semaphore. The partner's transfer raises it by the block's credit, handing over the device's output
  buffer with the partner's block in it.

When the blocks stay, cells 1 and 2 have no duty at all.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The protocol's own ghost state, one duty name per cell and round. -/
abbrev Ghost : Type := URounds (GSem nD τ sig) Unit
/-- The ghost state of the whole proof: the staging pipeline's beside the protocol's. -/
abbrev Extra : Type := UR sig nD τ × Ghost

local notation "𝕄" => MT nD τ sig Unit (Elt F) ℕ Extra ℕ

/-- Where the protocol's ghost state sits. -/
abbrev gh : Emb Ghost (MT nD τ sig Unit (Elt F) ℕ Extra ℕ) := embR

variable (m : (ℓ : Loc nD τ sig) → Buf (Elt F) ℓ) (sw : Bool)

/-! ## Partners -/

set_option backward.proofsInPublic true in
/-- The device with the other `x` and the same `y`, `z`: 16 places on around the 32. -/
def partner (c : Dev nD) : Dev nD := ⟨(c.val + 16) % 32, Nat.mod_lt _ (by decide)⟩

/-- A device is its partner's partner. -/
theorem partner_partner (c : Dev nD) : partner (partner c) = c := by revert c; decide

/-- The barrier signal's address, as the kernel computes it, is the partner. -/
theorem signal_dev (c : Dev nD) : (⟨k0_dev1 c, k0_dev1_lt c⟩ : Dev nD) = partner c := by revert c; decide +kernel

/-- Whose block ends on device `c`: its partner's if the blocks cross, else its own. -/
def origin (c : Dev nD) : Dev nD := if sw then partner c else c

/-! ## The routing table -/

/-- The destination that a table of the chosen kind gives for the row of devices with `x = r`. -/
def dest (r : ℕ) : BitVec 32 := BitVec.ofNat 32 (if sw then 1 - r else r)

/-- Every device's launch copy of the table is the chosen one: `[1, 0]` if the blocks cross, `[0, 1]` if not. -/
def Routed : Prop := ∀ (c : Dev nD) (i : S2.Idx), (m ((c : Thread nD τ).loc main_arg1) : IVec S2 32) i = dest sw (i 0).val

/-- The kernel's assumption about the word it reads: that it addresses a device of the mesh. -/
theorem dest_names (c : Dev nD) : k0_chk1 c (dest sw (c.val / 16)) := by
  revert c sw; decide +kernel

/-- The kernel's test for keeping its own block comes out true exactly when the blocks stay. -/
theorem keep_test (c : Dev nD) :
    (Scalar.cmpi .ne (Scalar.extui (Scalar.cmpi .eq (dest sw (c.val / 16)) (Scalar.remsi (Scalar.divsi (Dev.word c) 16#32) 2#32)) : BitVec 32) 0#32 = 1#1)
      = (sw = false) := by
  revert c sw; decide +kernel

/-- Its test for sending the block comes out true exactly when the blocks cross. -/
theorem send_test (c : Dev nD) : (k0_cond2 c (dest sw (c.val / 16)) = 1#1) = (sw = true) := by
  revert c sw; decide +kernel

/-- When the blocks cross, the address of the transfer is the partner. -/
theorem send_dev (c : Dev nD) (h : k0_dev2 c (dest true (c.val / 16)) < nD) :
    (⟨k0_dev2 c (dest true (c.val / 16)), h⟩ : Dev nD) = partner c :=
  Fin.ext ((show ∀ d : Dev nD, k0_dev2 d (dest true (d.val / 16)) = (partner d).val by decide +kernel) c)

/-! ## Buffers and cells -/

/-- The buffers the body is called with: the input block; -/
abbrev inB : Memref sig .tc .vmem S1x256x256 .bf16 := Memref.whole cc0_stg0_0
/-- the table; -/
abbrev tabB : Memref sig .tc .smem S2 .i32 := Memref.whole cc0_stg1_0
/-- the output block; -/
abbrev outB : Memref sig .tc .vmem S1x256x256 .bf16 := Memref.whole cc0_stg2_0
/-- the send buffer. -/
abbrev sendB : Memref sig .tc .vmem S1x256x256 .bf16 := Memref.whole cc0_scratch0

/-- The barrier semaphore of collective 0. -/
abbrev barrier : Sem sig := (SemArray.scalar (sig.barrier 0 rfl) : Sems sig S_).sem

/-- The semaphore behind each of a device's three cells: barrier, send, receive. -/
abbrev role : Fin 3 → SemLoc sig := fun | 0 => .reg barrier | 1 => .dma cc0_scratch1.sem | 2 => .dma cc0_scratch2.sem

/-- Device `c`'s cell `k`. -/
abbrev cell (c : Dev nD) (k : Fin 3) : GSem nD τ sig := ((c : Thread nD τ), role k)

/-- The three semaphores are different ones. -/
theorem role_inj : Function.Injective role := by decide

/-- A cell tells its device and its role. -/
theorem cell_eq_iff {c d : Dev nD} {k l : Fin 3} : cell c k = cell d l ↔ c = d ∧ k = l :=
  ⟨fun h => ⟨congrArg (fun g : GSem nD τ sig => g.1.1) h, role_inj (congrArg Prod.snd h)⟩, fun h => by rw [h.1, h.2]⟩

/-- What one block's transfer adds to a semaphore. -/
abbrev credit : ℕ := (outB : Memref sig .tc .vmem S1x256x256 .bf16).view.dmaCredit
/-- That is more than nothing. -/
theorem credit_pos : 0 < credit := View.dmaCredit_pos _ (by decide)

/-! ## Contents -/

/-- Device `c`'s input block as staged for the kernel. -/
def blockIn (c : Dev nD) : (cc0_stg0_0 : Ref sig .tc).ty.Contents (Elt F) :=
  (win0_0.blk (0 : Fin 1)).view.read (Elt F) (m ((c : Thread nD τ).loc main_arg0))

/-- Device `c`'s routing table as staged for the kernel. -/
def tableIn (c : Dev nD) : (cc0_stg1_0 : Ref sig .tc).ty.Contents (Elt F) :=
  (win0_1.blk (0 : Fin 1)).view.read (Elt F) (m ((c : Thread nD τ).loc main_arg1))

/-- Device `c`'s output block at the end. -/
def blockOut (c : Dev nD) : (cc0_stg2_0 : Ref sig .tc).ty.Contents (Elt F) := blockIn m (origin sw c)

omit [FloatOps F] in
/-- A transfer from the send buffer to the output buffer leaves there what it read. -/
theorem transferred (fd : (cc0_stg2_0 : Ref sig .tc).ty.Contents (Elt F)) (fs : (cc0_scratch0 : Ref sig .tc).ty.Contents (Elt F)) :
    (outB : Memref sig .tc .vmem S1x256x256 .bf16).view.write (Elt F) fd
      ((sendB : Memref sig .tc .vmem S1x256x256 .bf16).view.read (Elt F) fs) Finset.univ = fs :=
  (View.write_whole_univ cc0_stg2_0 _ _).trans (View.read_whole cc0_scratch0 _)

/-- Device `c`'s output buffer, holding `f`. -/
def outAt (c : Dev nD) (f : Buf (Elt F) ((outB : Memref sig .tc .vmem S1x256x256 .bf16).view.loc (c : Thread nD τ))) : sProp 𝕄 :=
  (outB : Memref sig .tc .vmem S1x256x256 .bf16).view.loc (c : Thread nD τ) ↦[(outB : Memref sig .tc .vmem S1x256x256 .bf16).view.set]{fullShare} f

/-- Device `c`'s send buffer, holding `f`. -/
def sendAt (c : Dev nD) (f : Buf (Elt F) ((sendB : Memref sig .tc .vmem S1x256x256 .bf16).view.loc (c : Thread nD τ))) : sProp 𝕄 :=
  (sendB : Memref sig .tc .vmem S1x256x256 .bf16).view.loc (c : Thread nD τ) ↦[(sendB : Memref sig .tc .vmem S1x256x256 .bf16).view.set]{fullShare} f

omit [FloatOps F] in
/-- An output buffer's contents can be kept in an invariant, -/
instance outAt_storable (c : Dev nD) (f) : BI.Storable (upEmb : UEmb _ 𝕄) (outAt (F := F) c f) := by unfold outAt; infer_instance
omit [FloatOps F] in
/-- and so can a send buffer's. -/
instance sendAt_storable (c : Dev nD) (f) : BI.Storable (upEmb : UEmb _ 𝕄) (sendAt (F := F) c f) := by unfold sendAt; infer_instance

omit [FloatOps F] in
/-- Both are the buffer taken whole. -/
theorem outAt_whole (c : Dev nD) (f : Buf (Elt F) ((c : Thread nD τ).loc cc0_stg2_0)) :
    outAt c f = (((c : Thread nD τ).loc cc0_stg2_0) ↦{fullShare} f : sProp 𝕄) := by
  unfold outAt; rw [View.set_whole]
omit [FloatOps F] in
/-- The send buffer is the buffer taken whole, too. -/
theorem sendAt_whole (c : Dev nD) (f : Buf (Elt F) ((c : Thread nD τ).loc cc0_scratch0)) :
    sendAt c f = (((c : Thread nD τ).loc cc0_scratch0) ↦{fullShare} f : sProp 𝕄) := by
  unfold sendAt; rw [View.set_whole]

/-! ## The schedule -/

/-- What the partner's barrier signal hands device `c`: if the blocks cross, the partner's output buffer and the round
    its receive cell is at. -/
def handed (c : Dev nD) : sProp 𝕄 :=
  if sw then iprop((∃ f, outAt (partner c) f) ∗ reached gh (cell (partner c) 2) 0) else iprop(emp)

/-- What device `c` keeps after its own signal: its output buffer, if the blocks stay. -/
def kept (c : Dev nD) : sProp 𝕄 := if sw then iprop(emp) else iprop(∃ f, outAt c f)

/-- The cells that see a raise: the barrier always, the other two only when the blocks cross. -/
abbrev Busy (s : SemLoc sig) : Prop := s = role 0 ∨ (sw = true ∧ (s = role 1 ∨ s = role 2))

/-- The protocol: who raises which cell by how much, and what the raise carries. -/
def plan : Rounds.Schedule (GSem nD τ sig) Unit 𝕄 where
  duties g r := if r = 0 ∧ g.1.2 = .tc ∧ Busy sw g.2 then {()} else ∅
  unitless _ := False
  amount g _ _ := if g.2 = role 0 then 1 else credit
  payload g _ _ :=
    if g.2 = role 0 then handed sw g.1.1
    else if g.2 = role 1 then sendAt g.1.1 (blockIn m g.1.1)
    else if g.2 = role 2 then outAt g.1.1 (blockIn m (partner g.1.1))
    else iprop(emp)
  amount_pos g _ _ _ := by
    split
    · exact Nat.one_pos
    · exact credit_pos

omit [FloatOps F] in
/-- What a barrier signal carries can be kept in an invariant, -/
instance handed_storable (c : Dev nD) : BI.Storable (upEmb : UEmb _ 𝕄) (handed (F := F) sw c) := by
  unfold handed; split <;> infer_instance

/-- and so can what any raise carries. -/
instance plan_payload_storable (g : GSem nD τ sig) (r : ℕ) (d : Unit) :
    BI.Storable (upEmb : UEmb _ 𝕄) ((plan (F := F) m sw).payload g r d) := by
  dsimp only [plan]; (repeat' split) <;> infer_instance

section Facts
variable (c : Dev nD)

/-- Cells of different roles have different semaphores. -/
theorem role_ne {k l : Fin 3} (h : k ≠ l) : role k ≠ role l := fun e => h (role_inj e)

omit [FloatOps F] in
/-- No round after the first has a duty. -/
theorem no_later (g : GSem nD τ sig) (r : ℕ) (hr : 1 ≤ r) : (plan (F := F) m sw).duties g r = ∅ :=
  if_neg fun h => absurd h.1 (by omega)

omit [FloatOps F] in
/-- When the blocks stay, a send or receive cell has no duty in any round. -/
theorem never (k : Fin 3) (hk : k ≠ 0) (r : ℕ) (_ : 0 ≤ r) : (plan (F := F) m false).duties (cell c k) r = ∅ :=
  if_neg fun h => h.2.2.elim (fun e => hk (role_inj e)) (fun e => Bool.noConfusion e.1)

omit [FloatOps F] in
/-- A busy cell's first round is the one duty. -/
theorem duties_at (k : Fin 3) (hk : Busy sw (role k)) : (plan (F := F) m sw).duties (cell c k) 0 = {()} :=
  if_pos ⟨rfl, rfl, hk⟩

omit [FloatOps F] in
/-- So that duty is there to be paid. -/
theorem mem_duties (k : Fin 3) (hk : Busy sw (role k)) : () ∈ (plan (F := F) m sw).duties (cell c k) 0 := by
  rw [duties_at m sw c k hk]; exact Finset.mem_singleton_self _

omit [FloatOps F] in
/-- A barrier signal is of one unit. -/
theorem amount_barrier (d : Unit) : (plan (F := F) m sw).amount (cell c 0) 0 d = 1 := by
  dsimp only [plan]; exact if_pos rfl
omit [FloatOps F] in
/-- A transfer raises either of its cells by its credit. -/
theorem amount_transfer (k : Fin 3) (hk : k ≠ 0) (d : Unit) : (plan (F := F) m sw).amount (cell c k) 0 d = credit :=
  if_neg (role_ne hk)

omit [FloatOps F] in
/-- So the round expects that duty's amount, -/
theorem expect_at (k : Fin 3) (hk : Busy sw (role k)) :
    (plan (F := F) m sw).expect (cell c k) 0 = (plan (F := F) m sw).amount (cell c k) 0 () := by
  unfold Schedule.expect Schedule.amountOf; rw [duties_at m sw c k hk, Finset.sum_singleton]

omit [FloatOps F] in
/-- and hands over its payload. -/
theorem rest_at (k : Fin 3) (hk : Busy sw (role k)) :
    bigSep ((plan (F := F) m sw).duties (cell c k) 0 \ ∅) (fun d => (plan (F := F) m sw).payload (cell c k) 0 d)
      = (plan (F := F) m sw).payload (cell c k) 0 () := by
  rw [Finset.sdiff_empty, duties_at m sw c k hk, bigSep_singleton]

omit [FloatOps F] in
/-- The barrier's unit carries the partner's output buffer, if the blocks cross. -/
theorem payload_barrier : (plan (F := F) m sw).payload (cell c 0) 0 () = handed sw c := by
  dsimp only [plan]; exact if_pos rfl
omit [FloatOps F] in
/-- The send cell's credit carries the send buffer back. -/
theorem payload_send : (plan (F := F) m sw).payload (cell c 1) 0 () = sendAt c (blockIn m c) := by
  dsimp only [plan]; exact (if_neg (role_ne (k := 1) (l := 0) (by decide))).trans (if_pos rfl)
omit [FloatOps F] in
/-- The receive cell's credit carries the output buffer with the partner's block in it. -/
theorem payload_receive : (plan (F := F) m sw).payload (cell c 2) 0 () = outAt c (blockIn m (partner c)) := by
  dsimp only [plan]
  exact (if_neg (role_ne (k := 2) (l := 0) (by decide))).trans ((if_neg (role_ne (k := 2) (l := 1) (by decide))).trans (if_pos rfl))

omit [FloatOps F] in
/-- A device's output buffer, with the round of its receive cell, is what its signal hands the partner beside what it keeps. -/
theorem give_out (f : Buf (Elt F) ((c : Thread nD τ).loc cc0_stg2_0)) :
    iprop(outAt c f ∗ reached gh (cell c 2) 0) ⊢ (iprop(handed sw (partner c) ∗ kept sw c) : sProp 𝕄) := by
  unfold handed kept
  rw [partner_partner]
  cases sw
  · iintro ⟨Ho, -⟩
    isplitr
    · rw [if_neg Bool.false_ne_true]; iempintro
    · rw [if_neg Bool.false_ne_true]; iexists f; iexact Ho
  · iintro ⟨Ho, Hr⟩
    isplitl
    · rw [if_pos rfl]
      isplitl [Ho]
      · iexists f; iexact Ho
      · iexact Hr
    · rw [if_pos rfl]; iempintro

end Facts

/-! ## Debts and levels -/

/-- What a device owes from its barrier wait on: the block's credit to its partner's receive cell, if the blocks cross. -/
def debt (c : Dev nD) : CellTallies nD τ sig Unit := tallyAt (cell (partner c) 2) () (if sw then credit else 0)

/-- What a device owes at launch: that, and the unit to its partner's barrier. -/
def debt₀ (c : Dev nD) : CellTallies nD τ sig Unit := debt sw c + tallyAt (cell (partner c) 0) () 1

/-- The index every TensorCore cell is leveled at. -/
def idx (g : GSem nD τ sig) : Finset Unit := if g.1.2 = .tc then {()} else ∅

/-- Levels: barriers below receive cells, everything else lowest. -/
def level (g : GSem nD τ sig) (_ : Unit) : ℕ := if g.2 = role 0 then 1 else if g.2 = role 2 then 2 else 0

/-- Every cell of a TensorCore has the one index. -/
theorem idx_tc (c : Dev nD) (s : SemLoc sig) : () ∈ idx ((c : Thread nD τ), s) := by
  unfold idx; rw [if_pos rfl]; exact Finset.mem_singleton_self _

/-- A debt is to the partner's receive cell, and then the blocks cross; -/
theorem debt_pos {c : Dev nD} {g : GSem nD τ sig} {u : Unit} (h : 0 < debt sw c g u) : g = cell (partner c) 2 := by
  unfold debt at h; rw [tallyAt_apply] at h
  by_contra hn
  rw [if_neg fun e => hn e.1] at h
  exact Nat.lt_irrefl 0 h

/-- at launch, or to the partner's barrier. -/
theorem debt₀_pos {c : Dev nD} {g : GSem nD τ sig} {u : Unit} (h : 0 < debt₀ sw c g u) :
    g = cell (partner c) 2 ∨ g = cell (partner c) 0 := by
  unfold debt₀ at h
  rw [Pi.add_apply, Finsupp.add_apply, tallyAt_apply] at h
  by_cases hb : g = cell (partner c) 0
  · exact Or.inr hb
  · rw [if_neg fun e => hb e.1, Nat.add_zero] at h
    exact Or.inl (debt_pos sw h)

/-- The barrier is at level 1, -/
theorem level_barrier (c : Dev nD) (u : Unit) : level (cell c 0) u = 1 := if_pos rfl
/-- and the receive cell above it, at level 2. -/
theorem level_receive (c : Dev nD) (u : Unit) : level (cell c 2) u = 2 :=
  (if_neg (role_ne (k := 2) (l := 0) (by decide))).trans (if_pos rfl)

omit [FloatOps F] in
/-- The barrier wait is below what is owed then. -/
theorem barrier_wait (c : Dev nD) : (levAts idx level : sProp 𝕄) ⊢ MayWait (c : Thread nD τ) (.reg barrier) () (debt sw c) :=
  MayOwe.of_cut (L := idx) (lev := level) 1 (fun p hp => by rw [Finset.mem_singleton.mp hp]; exact idx_tc c _)
    (fun g u hg => by rw [debt_pos sw hg]; exact idx_tc _ _)
    (fun p hp => by rw [Finset.mem_singleton.mp hp]; exact (level_barrier c ()).le)
    (fun g u hg => by rw [debt_pos sw hg, level_receive]; decide)

omit [FloatOps F] in
/-- The staging waits are below everything owed at launch. -/
theorem stage_wait (c : Dev nD) (q : DmaSem sig) (hq : SemLoc.dma q ≠ role 2) :
    (levAts idx level : sProp 𝕄) ⊢ MayWait (c : Thread nD τ) (.dma q) () (debt₀ sw c) :=
  MayOwe.of_cut (L := idx) (lev := level) 0 (fun p hp => by rw [Finset.mem_singleton.mp hp]; exact idx_tc c _)
    (fun g u hg => by rcases debt₀_pos sw hg with rfl | rfl <;> exact idx_tc _ _)
    (fun p hp => by
      rw [Finset.mem_singleton.mp hp]; unfold level
      rw [if_neg (fun e => by cases e), if_neg hq])
    (fun g u hg => by
      rcases debt₀_pos sw hg with rfl | rfl
      · rw [level_receive]; decide
      · rw [level_barrier]; decide)

end Cert.Exchange

end
-- ==== Proof.Body.lean ====
/-
# One device's kernel body

The body is executed symbolically, an effect at a time, from what a device holds when it enters the kernel to what it
leaves: its input block and table as they were, its output block holding the block the table sends it, and its three
cells closed at zero. The two routings share everything up to the test of the word read from the table.
-/
module

public import proofs.«01_k».proof.Proof.Protocol
public import proofs.«01_k».proof.Proof.Gen.KernelIdeal.Points
public import Idealize.ShloMosaic.Lib.Pipeline.Value

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ Extra ℕ

variable (m : (ℓ : Loc nD τ sig) → Buf (Elt F) ℓ) (sw : Bool)

/-! ## What a device holds -/

/-- The cells a device's body touches, under their names: its own three, its partner's barrier and receive cell. -/
def known (K : Dev nD × Fin 3 → ℕ) (c : Dev nD) : sProp 𝕄 :=
  iprop(cellInv gh (plan m sw) (K (c, 0)) (cell c 0) ∗ cellInv gh (plan m sw) (K (c, 1)) (cell c 1)
    ∗ cellInv gh (plan m sw) (K (c, 2)) (cell c 2) ∗ cellInv gh (plan m sw) (K (partner c, 0)) (cell (partner c) 0)
    ∗ cellInv gh (plan m sw) (K (partner c, 2)) (cell (partner c) 2)
    ∗ reached gh (cell c 1) 0 ∗ reached gh (cell c 2) 0 ∗ reached gh (cell (partner c) 0) 0)

/-- What is known of the cells stays known. -/
instance known_persistent (K : Dev nD × Fin 3 → ℕ) (c : Dev nD) : BI.Persistent (known m sw K c) := by unfold known; infer_instance

/-- The three raises a device pays: its partner's barrier, its own send cell, its partner's receive cell. -/
abbrev payee (c : Dev nD) (k : Fin 3) : GSem nD τ sig := cell (if k = 1 then c else partner c) k

/-- A device's own part of the protocol's state: where it is in its three cells, and the rights to its three raises. -/
def own (c : Dev nD) : sProp 𝕄 :=
  iprop((atPos gh (cell c 0) 0 ∅ 0 ∗ atPos gh (cell c 1) 0 ∅ 0 ∗ atPos gh (cell c 2) 0 ∅ 0)
    ∗ dutyTok gh (payee c 0) 0 () ∗ dutyTok gh (payee c 1) 0 () ∗ dutyTok gh (payee c 2) 0 ())

/-- What it enters the kernel with, besides its buffers: that, what it may wait for at its barrier and its receive cell,
    and the levels. -/
def start (c : Dev nD) : sProp 𝕄 :=
  iprop((∃ K, known m sw K c) ∗ own c ∗ cred (tallyAt (cell c 0) () 1) ∗ cred (tallyAt (cell c 2) () (if sw then credit else 0))
    ∗ levAts idx level)

/-- Before the body: that and its send buffer. -/
def enter (c : Dev nD) : sProp 𝕄 := iprop(start m sw c ∗ ∃ f, sendAt c f)

/-- After the body: its send buffer, and its three cells at zero. -/
def leave (c : Dev nD) : sProp 𝕄 :=
  iprop((∃ f, sendAt c f) ∗ semVal (cell c 1) 0 ∗ semVal (cell c 2) 0 ∗ semVal (cell c 0) 0)

/-- The staging pipeline's data: the arrays as launched, the staged buffers after the body, what is held and owed. -/
def data (_ : Fin 1) (c : Dev nD) : Dat τ (Elt F) Unit ℕ Extra ℕ cfg0 c where
  A w := m ((cfg0.win w).arr.view.loc (c : Thread nD τ))
  after w _ := match w with
    | ⟨0, _⟩ => blockIn m c
    | ⟨1, _⟩ => tableIn m c
    | ⟨2, _⟩ => blockOut m sw c
  Φ t := match t with
    | ⟨0, _⟩ => enter m sw c
    | ⟨_ + 1, _⟩ => leave c
  q _ := fullShare
  owed t := match t with
    | ⟨0, _⟩ => debt₀ sw c
    | ⟨_ + 1, _⟩ => 0

/-- No body is entered by a variant. -/
abbrev noVar : Variants := Variants.none

/-- The kernel's one point. -/
def pt : Fin cfg0.N := ⟨0, by decide⟩
/-- The grid has one point. -/
theorem pt_only (t : Fin cfg0.N) : t = pt := Fin.ext (by have := t.isLt; have h : cfg0.N = 1 := by decide
                                                         simp only [pt]; omega)

/-- A staging buffer held whole at contents `X`. -/
abbrev holds (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
/-- That is what the pipeline means by owning it. -/
theorem owns_holds (c : Dev nD) (b : Ref sig .tc) (X : b.ty.Contents (Elt F)) :
    (owns (Ix := Unit) (Name := ℕ) (U := Extra) (Lvl := ℕ) (c : Thread nD τ) (Memref.whole b) fullShare X : sProp 𝕄) = holds c b X := by
  unfold owns; simp only [Memref.view_whole, View.read_whole, View.set_whole]

/-! ## What the accesses read and write -/

/-- The whole of a block, as the body's vector accesses name it. -/
abbrev full : Rect S1x256x256 := Rect.unit (s := S1x256x256) ![0, 0, 0] S1x256x256.size inb_S1x256x256_S1x256x256_0_0_0

/-- The corner the kernel's loads and stores start from is the origin. -/
theorem offsets_zero : (![0, 0, 0] : Fin 3 → Nat) = fun _ => 0 := funext fun a => by fin_cases a <;> rfl

omit [FloatOps F] in
/-- A whole load of a whole block buffer is its contents; -/
theorem load_in (f : (cc0_stg0_0 : Ref sig .tc).ty.Contents (Elt F)) :
    (inB : Memref sig .tc .vmem S1x256x256 .bf16).view.readAt (Elt F) full.toLoadRect f = f :=
  Memref.readAt_unit_zero (Elt F) cc0_stg0_0 offsets_zero _ f
omit [FloatOps F] in
/-- A load of the whole send buffer reads what it holds. -/
theorem load_send (f : (cc0_scratch0 : Ref sig .tc).ty.Contents (Elt F)) :
    (sendB : Memref sig .tc .vmem S1x256x256 .bf16).view.readAt (Elt F) full.toLoadRect f = f :=
  Memref.readAt_unit_zero (Elt F) cc0_scratch0 offsets_zero _ f

omit [FloatOps F] in
/-- a whole store replaces them. -/
theorem store_send (f w : (cc0_scratch0 : Ref sig .tc).ty.Contents (Elt F)) :
    ((sendB : Memref sig .tc .vmem S1x256x256 .bf16).access full : View sig .tc _ _ _).write (Elt F) f w Finset.univ = w :=
  Memref.write_access_unit_zero_univ (Elt F) cc0_scratch0 offsets_zero _ f w
omit [FloatOps F] in
/-- A store to the whole output buffer leaves there what was stored. -/
theorem store_out (f w : (cc0_stg2_0 : Ref sig .tc).ty.Contents (Elt F)) :
    ((outB : Memref sig .tc .vmem S1x256x256 .bf16).access full : View sig .tc _ _ _).write (Elt F) f w Finset.univ = w :=
  Memref.write_access_unit_zero_univ (Elt F) cc0_stg2_0 offsets_zero _ f w

/-- The two reshapes between the load and the store change nothing. -/
theorem reshaped (v : Vec F S1x256x256 .bf16) : k0_pay1 v = v := by
  unfold k0_pay1; exact (shapeCast_self _ _).trans (shapeCast_self _ _)

/-- The word of the table the body reads: the one of its own row of devices. -/
abbrev wordAt (c : Dev nD) : Rect S2 := Rect.unit (s := S2) (k0_off1 c) S1.size (k0_off1_inb c)

variable {m} {sw} in
omit [FloatOps F] in
/-- Under either routing that word is the row's destination. -/
theorem Routed.word (h : Routed m sw) (c : Dev nD) :
    ((tabB : Memref sig .tc .smem S2 .i32).access (wordAt c) : View sig .tc _ _ _).read (Elt F) (tableIn m c)
      (Shape.Idx.first (s := S1) (numel1_S1.symm ▸ Nat.one_pos)) = dest sw (c.val / 16) := by
  refine (h c _).trans (congrArg (dest sw) ?_)
  revert c; decide +kernel

/-! ## The body -/

section Run

variable (K : Dev nD × Fin 3 → ℕ) (c : Dev nD)

/-- The transfer to the partner, when the blocks cross: it takes the send buffer, the partner's output buffer and the
    debt to the partner's receive cell, and leaves what to wait for at the send cell. -/
theorem transfer (n : Dev nD) (hn : n = partner c)
    {hsc : (outB : Memref sig (Dev.tc n : Thread nD τ).2.kind .vmem S1x256x256 .bf16).view.ref.isScScratch = false}
    {hsrc : (sendB : Memref sig .tc .vmem S1x256x256 .bf16).view.WordExact} {hdst : (outB : Memref sig .tc .vmem S1x256x256 .bf16).view.WordExact}
    {hsem : DmaTarget.Typed .vmem (role 2) (.remote (Dev.tc n : Thread nD τ) (outB : Memref sig .tc .vmem S1x256x256 .bf16) (role 1) hsc)}
    {α : Type} {Q : α → sProp 𝕄} {k : PUnit → Prog (TpuEff nD τ sig (Elt F) Λ₀ .tc) α}
    (f : Buf (Elt F) ((outB : Memref sig .tc .vmem S1x256x256 .bf16).view.loc (partner c : Thread nD τ))) (W : Waits sig Unit) :
    iprop(cellInv gh (plan m true) (K (c, 1)) (cell c 1) ∗ cellInv gh (plan m true) (K (partner c, 2)) (cell (partner c) 2)
        ∗ sendAt c (blockIn m c) ∗ outAt (partner c) f ∗ owes (c : Thread nD τ) (debt true c) W
        ∗ dutyTok gh (cell c 1) 0 () ∗ reached gh (cell c 1) 0
        ∗ dutyTok gh (cell (partner c) 2) 0 () ∗ reached gh (cell (partner c) 2) 0)
      ⊢ iprop(((cred (tallyAt (cell c 1) () credit) ∗ owes (c : Thread nD τ) 0 W) -∗ wp frame (wpE (defs₀ (F := F)) noVar (c : Thread nD τ) none) Set.univ (k ⟨⟩) Q)
          -∗ wp frame (wpE (defs₀ (F := F)) noVar (c : Thread nD τ) none) Set.univ
              (.op (.enqueueDma sendB (.remote (Dev.tc n : Thread nD τ) outB (role 1) hsc) (role 2) hsrc hdst hsem) k) Q) := by
  subst hn
  unfold sendAt outAt
  exact Rounds.wp_send_pointsTo noVar gh (plan m true) (c : Thread nD τ) none (κ₁ := K (c, 1)) (κ₂ := K (partner c, 2))
    (r₁ := 0) (r₂ := 0) (d₁ := ()) (d₂ := ()) (fd := f)
    (mem_duties m true c 1 (.inr ⟨rfl, .inl rfl⟩)) (mem_duties m true (partner c) 2 (.inr ⟨rfl, .inr rfl⟩))
    () () credit rfl (amount_transfer m true c 1 (by decide) ()) (amount_transfer m true (partner c) 2 (by decide) ())
    0 (by rw [zero_add]; rfl) (W := W)
    (by rw [payload_send]; unfold sendAt; exact BI.Entails.refl _)
    (by rw [payload_receive, partner_partner]; unfold outAt; rw [transferred])

/-- The device's resources as its body is entered at names `K`. -/
def before : sProp 𝕄 :=
  iprop((known m sw K c ∗ own c ∗ cred (tallyAt (cell c 0) () 1) ∗ cred (tallyAt (cell c 2) () (if sw then credit else 0))
      ∗ levAts idx level ∗ ∃ f, sendAt c f)
    ∗ (data m sw 0 c).owesAt () pt.castSucc
    ∗ (∃ d, holds c cc0_stg0_0 ((data m sw 0 c).before (0 : Fin 3) pt d))
    ∗ (∃ d, holds c cc0_stg1_0 ((data m sw 0 c).before (1 : Fin 3) pt d))
    ∗ (∃ d, holds c cc0_stg2_0 ((data m sw 0 c).before (2 : Fin 3) pt d)))

/-- And as its body is left. -/
def after : sProp 𝕄 :=
  iprop(leave c ∗ (data m sw 0 c).owesAt () pt.succ
    ∗ holds c cc0_stg0_0 (blockIn m c) ∗ holds c cc0_stg1_0 (tableIn m c) ∗ holds c cc0_stg2_0 (blockOut m sw c))

omit [FloatOps F] in
/-- Counted at either end, a block's transfer has the same credit. -/
theorem credit_send : (sendB : Memref sig .tc .vmem S1x256x256 .bf16).view.dmaCredit = credit := rfl

/-- A wait for a transfer's whole credit, when the blocks cross: it returns what the transfer carried, and the cell has
    nothing more to come, so it closes at zero. -/
theorem landing (k : Fin 3) (hk : k ≠ 0) {v : ℕ} (hv : v = credit) {w : TpuEff nD τ sig (Elt F) Λ₀ .tc PUnit}
    (hw : ∀ R : PUnit → sProp 𝕄, wpE (defs₀ (F := F)) noVar (c : Thread nD τ) none Set.univ w R = waitSpec (c : Thread nD τ) Set.univ (role k) v R)
    {α : Type} {Q : α → sProp 𝕄} {rest : PUnit → Prog (TpuEff nD τ sig (Elt F) Λ₀ .tc) α} {W : Waits sig Unit} :
    iprop(cellInv gh (plan m true) (K (c, k)) (cell c k) ∗ cred (tallyAt (cell c k) () credit) ∗ owes (c : Thread nD τ) 0 W
        ∗ atPos gh (cell c k) 0 ∅ 0)
      ⊢ iprop(((∃ W', owes (c : Thread nD τ) 0 W') ∗ semVal (cell c k) 0 ∗ (plan m true).payload (cell c k) 0 ()
            -∗ wp frame (wpE (defs₀ (F := F)) noVar (c : Thread nD τ) none) Set.univ (rest ⟨⟩) Q)
          -∗ wp frame (wpE (defs₀ (F := F)) noVar (c : Thread nD τ) none) Set.univ (.op w rest) Q) := by
  subst hv
  have hb : Busy true (role k) := by
    fin_cases k
    · exact absurd rfl hk
    · exact .inr ⟨rfl, .inl rfl⟩
    · exact .inr ⟨rfl, .inr rfl⟩
  iintro ⟨#HI, Hc, HO, Hat⟩ Hk
  iapply (Rounds.wp_wait_rest_token noVar gh (plan m true) (c : Thread nD τ) none (κ := K (c, k)) hw (Set.mem_univ _) () (O := 0) (W := W)
      (R := 0) (m := 0) (T := ∅) (by rw [Nat.zero_add, expect_at m true c k hb, amount_transfer m true c k hk])) $$ [Hc HO Hat]
  · isplitr; · iexact HI
    isplitl [Hc]; · iexact Hc
    isplitl [HO]; · iexact HO
    isplitr; · rw [MayWait_zero]; iempintro
    iexact Hat
  iintro ⟨HO, Hat, -, Hp⟩
  ihave Hp := (Entails.of_eq (rest_at m true c k hb)) $$ Hp
  imod (Rounds.cell_close gh (plan m true) (Set.mem_univ (K (c, k))) (fun h => h) (R := 0 + 1) (no_later m true (cell c k))) $$ [Hat] with Hz
  · isplitr; · iexact HI
    iexact Hat
  iapply Hk
  isplitl [HO]; · iexists _; iexact HO
  isplitl [Hz] <;> iassumption

/-- What the body has in hand at its end is what it must leave. -/
theorem leaves {f : Buf (Elt F) ((sendB : Memref sig .tc .vmem S1x256x256 .bf16).view.loc (c : Thread nD τ))} {W : Waits sig Unit} :
    iprop(sendAt c f ∗ semVal (cell c 1) 0 ∗ semVal (cell c 2) 0 ∗ semVal (cell c 0) 0 ∗ owes (c : Thread nD τ) 0 W
        ∗ (((c : Thread nD τ).loc cc0_stg0_0) ↦{fullShare} blockIn m c) ∗ (((c : Thread nD τ).loc cc0_stg1_0) ↦{fullShare} tableIn m c)
        ∗ outAt c (blockOut m sw c))
      ⊢ (after m sw c : sProp 𝕄) := by
  unfold after leave Dat.owesAt Pipeline.owesWithin
  rw [show (data m sw 0 c).owed pt.succ = 0 from rfl, outAt_whole]
  iintro ⟨Hs, Hz1, Hz2, Hz0, HO, Hx, Ht, Ho⟩
  isplitl [Hs Hz1 Hz2 Hz0]
  · isplitl [Hs]; · iexists f; iexact Hs
    isplitl [Hz1]; · iexact Hz1
    isplitl [Hz2] <;> iassumption
  isplitl [HO]
  · iexists W
    isplitr; · ipureintro; exact fun _ _ => Or.inl trivial
    iexact HO
  isplitl [Hx]
  · iexists _; isplitr; · (ipureintro; rfl)
    iexact Hx
  isplitl [Ht]
  · iexists _; isplitr; · (ipureintro; rfl)
    iexact Ht
  iexists _; isplitr; · (ipureintro; rfl)
  iexact Ho

/-- The body on its buffers. -/
abbrev prog : Prog (TpuEff nD τ sig (Elt F) Λ₀ .tc) PUnit :=
  cc0_body inB (Memref.isWhole_whole _) tabB (Memref.isWhole_whole _) outB (Memref.isWhole_whole _) sendB (Memref.isWhole_whole _)
    cc0_scratch1 cc0_scratch2

set_option maxHeartbeats 1600000 in
/-- The body takes the one to the other, under either routing. -/
theorem body_runs (h : Routed m sw) (Kt : PUnit → sProp 𝕄) :
    iprop(before m sw K c ∗ (after m sw c -∗ Kt ⟨⟩))
      ⊢ wp frame (wpE (defs₀ (F := F)) noVar c none) Set.univ prog Kt := by
  unfold prog
  simp only [cc0_body_eq_skeleton]; unfold cc0_body_skel
  simp only [semSignalWord, semWaitWord, smemLoad, smemLoadElt, Prog.lift, Prog.bind_op, Prog.bind_ret, Prog.pure_eq_ret, Prog.bind_assoc, wp_deviceId]
  unfold before known own
  iintro ⟨⟨⟨⟨#HI0, #HI1, #HI2, #HJ0, #HJ2, #HR1, #HR2, #HR0⟩, ⟨⟨Hat0, Hat1, Hat2⟩, Ht0, Ht1, Ht2⟩, Hc0, Hc2, #Hlev, ⟨%fs, Hs⟩⟩,
    Ho, ⟨%d0, %g0, %hg0, Hx⟩, ⟨%d1, %g1, %hg1, Htab⟩, ⟨%d2, %g2, %hg2, Hout⟩⟩, Hk⟩
  have hx : g0 = blockIn m c := by rw [hg0]; unfold Dat.before; rw [if_pos (fetch0_0 pt)]; rfl
  have ht : g1 = tableIn m c := by rw [hg1]; unfold Dat.before; rw [if_pos (fetch0_1 pt)]; rfl
  subst hx ht
  unfold Dat.owesAt Pipeline.owesWithin
  icases Ho with ⟨%W, %hW, HO⟩
  rw [show (data m sw 0 c).owed pt.castSucc = debt₀ sw c from rfl]
  -- the table's word, and the assumption about it
  iapply (wp_load_rect noVar (c : Thread nD τ) none Set.univ (m := tabB) (r := wordAt c) (Finset.subset_univ _)) $$ Htab; iintro Htab
  rw [h.word c]
  simp only [wp_assume_of _ _ _ _ (d := k0_chk1.dec _ _) (dest_names sw c)]
  -- the input block into the send buffer
  ihave Hs := (Entails.of_eq (sendAt_whole c fs)) $$ Hs
  iapply (wp_load noVar (c : Thread nD τ) none Set.univ (m := inB) (Finset.subset_univ _)) $$ Hx; iintro Hx
  iapply (wp_load noVar (c : Thread nD τ) none Set.univ (m := sendB) (Finset.subset_univ _)) $$ Hs; iintro Hs
  iapply (wp_store noVar (c : Thread nD τ) none Set.univ (m := sendB) (r := full) (Mk := Finset.univ) (Finset.subset_univ _)) $$ Hs; iintro Hs
  rw [store_send, load_in, reshaped]
  -- the signal to the partner
  simp only [signal_dev c]
  ihave Hg := (give_out (F := F) sw c g2) $$ [Hout]
  · isplitl [Hout]
    · iapply (Entails.of_eq (outAt_whole c g2).symm); iexact Hout
    · iexact HR2
  icases Hg with ⟨Hg, Hkept⟩
  iapply (Rounds.wp_signal noVar gh (plan m sw) (c : Thread nD τ) none (dst := (partner c : Thread nD τ)) (κ := K (partner c, 0))
      (d := ()) (mem_duties m sw (partner c) 0 (.inl rfl)) ((amount_barrier m sw (partner c) ()).trans (by decide)) () (debt sw c) rfl)
    $$ [HO Ht0 Hg]
  · isplitr; · iexact HJ0
    isplitl [HO]; · iexact HO
    isplitl [Ht0]; · iexact Ht0
    isplitl [Hg]; · rw [payload_barrier]; iexact Hg
    iexact HR0
  iintro HO
  -- the wait for the partner's
  iapply (Rounds.wp_wait_rest_token noVar gh (plan m sw) (c : Thread nD τ) none (κ := K (c, 0))
      (wpE_semWait_eq noVar (c : Thread nD τ) none Set.univ) (Set.mem_univ _) () (O := debt sw c) (W := W) (R := 0) (m := 0) (T := ∅)
      (by rw [expect_at m sw c 0 (.inl rfl), amount_barrier]; decide)) $$ [Hc0 HO Hat0]
  · isplitr; · iexact HI0
    isplitl [Hc0]; · iexact Hc0
    isplitl [HO]; · iexact HO
    isplitr; · iapply (barrier_wait sw c); iexact Hlev
    iexact Hat0
  iintro ⟨HO, Hat0, -, Hp⟩
  ihave Hp := (Entails.of_eq ((rest_at m sw c 0 (.inl rfl)).trans (payload_barrier m sw c))) $$ Hp
  imod (Rounds.cell_close gh (plan m sw) (Set.mem_univ (K (c, 0))) (fun h => h) (R := 0 + 1) (no_later m sw (cell c 0))) $$ [Hat0] with Hz0
  · isplitr; · iexact HI0
    iexact Hat0
  simp only [keep_test sw c]
  cases sw
  case false =>
    -- the blocks stay: the output block is a copy of the send buffer
    rw [if_pos rfl, dif_neg (fun e => Bool.noConfusion ((send_test false c).mp e))]
    ihave Hkept := (Entails.of_eq (show kept false c = _ from if_neg Bool.false_ne_true)) $$ Hkept
    icases Hkept with ⟨%fo, Hout⟩
    ihave Hout := (Entails.of_eq (outAt_whole c fo)) $$ Hout
    iapply (wp_load noVar (c : Thread nD τ) none Set.univ (m := sendB) (Finset.subset_univ _)) $$ Hs; iintro Hs
    iapply (wp_load noVar (c : Thread nD τ) none Set.univ (m := outB) (Finset.subset_univ _)) $$ Hout; iintro Hout
    iapply (wp_store noVar (c : Thread nD τ) none Set.univ (m := outB) (r := full) (Mk := Finset.univ) (Finset.subset_univ _)) $$ Hout; iintro Hout
    rw [store_out, load_send, wp_ret]
    imod (Rounds.cell_close gh (plan m false) (Set.mem_univ (K (c, 1))) (fun h => h) (R := 0) (never m c 1 (by decide))) $$ [Hat1] with Hz1
    · isplitr; · iexact HI1
      iexact Hat1
    imod (Rounds.cell_close gh (plan m false) (Set.mem_univ (K (c, 2))) (fun h => h) (R := 0) (never m c 2 (by decide))) $$ [Hat2] with Hz2
    · isplitr; · iexact HI2
      iexact Hat2
    imodintro
    iapply Hk
    iapply (leaves m false c)
    isplitl [Hs]
    · iapply (Entails.of_eq (sendAt_whole c _).symm); iexact Hs
    isplitl [Hz1]; · iexact Hz1
    isplitl [Hz2]; · iexact Hz2
    isplitl [Hz0]; · iexact Hz0
    isplitl [HO]; · rw [show debt false c = 0 from tallyAt_zero _ _]; iexact HO
    isplitl [Hx]; · iexact Hx
    isplitl [Htab]; · iexact Htab
    iapply (Entails.of_eq (outAt_whole c _).symm); iexact Hout
  case true =>
    -- the blocks cross: the send buffer goes to the partner's output, and the partner's block comes to this one's
    rw [if_neg (show ¬ true = false from Bool.noConfusion), dif_pos ((send_test true c).mpr rfl)]
    ihave Hp := (Entails.of_eq (show handed true c = _ from if_pos rfl)) $$ Hp
    ihave Hc2 := (Entails.of_eq (show cred (tallyAt (cell c 2) () (if true = true then credit else 0)) = _ by rw [if_pos rfl])) $$ Hc2
    icases Hp with ⟨⟨%fo, Hpo⟩, #HP2⟩
    ihave Hs := (Entails.of_eq (sendAt_whole c _).symm) $$ Hs
    iapply (transfer m K c _ (send_dev c _) fo _) $$ [Hs Hpo HO Ht1 Ht2]
    · isplitr; · iexact HI1
      isplitr; · iexact HJ2
      isplitl [Hs]; · iexact Hs
      isplitl [Hpo]; · iexact Hpo
      isplitl [HO]; · iexact HO
      isplitl [Ht1]; · iexact Ht1
      isplitr; · iexact HR1
      isplitl [Ht2]; · iexact Ht2
      iexact HP2
    iintro ⟨Hc1, HO⟩
    iapply (landing m K c 1 (by decide) credit_send (wpE_waitDma2_eq noVar (c : Thread nD τ) none Set.univ)) $$ [Hc1 HO Hat1]
    · isplitr; · iexact HI1
      isplitl [Hc1]; · iexact Hc1
      isplitl [HO]; · iexact HO
      iexact Hat1
    iintro ⟨⟨%W1, HO⟩, Hz1, Hs⟩
    iapply (landing m K c 2 (by decide) rfl (wpE_waitDma2_eq noVar (c : Thread nD τ) none Set.univ)) $$ [Hc2 HO Hat2]
    · isplitr; · iexact HI2
      isplitl [Hc2]; · iexact Hc2
      isplitl [HO]; · iexact HO
      iexact Hat2
    iintro ⟨⟨%W2, HO⟩, Hz2, Hout⟩
    ihave Hs := (Entails.of_eq (payload_send m true c)) $$ Hs
    ihave Hout := (Entails.of_eq (payload_receive m true c)) $$ Hout
    rw [wp_ret]; imodintro
    iapply Hk
    iapply (leaves m true c)
    isplitl [Hs]; · iexact Hs
    isplitl [Hz1]; · iexact Hz1
    isplitl [Hz2]; · iexact Hz2
    isplitl [Hz0]; · iexact Hz0
    isplitl [HO]; · iexact HO
    isplitl [Hx]; · iexact Hx
    isplitl [Htab]; · iexact Htab
    iexact Hout

/-- The pipeline's obligation for the body, on every device. -/
theorem body_obligation (h : Routed m sw) (c : Dev nD) : BodyObligation (data (F := F) m sw 0 c) (defs₀ (F := F)) noVar () Set.univ := fun t => by
  rw [pt_only t, bigSep_W0, bigSep_W0]
  simp only [owns_holds]
  show iprop(enter m sw c ∗ (data m sw 0 c).owesAt () pt.castSucc
      ∗ (∃ d, holds c cc0_stg0_0 ((data m sw 0 c).before (0 : Fin 3) pt d))
      ∗ (∃ d, holds c cc0_stg1_0 ((data m sw 0 c).before (1 : Fin 3) pt d))
      ∗ (∃ d, holds c cc0_stg2_0 ((data m sw 0 c).before (2 : Fin 3) pt d)))
    ⊢ wp frame (wpE (defs₀ (F := F)) noVar c none) Set.univ prog (fun _ => after m sw c)
  unfold enter start
  iintro ⟨⟨⟨⟨%K, #HK⟩, Hown, Hc0, Hc2, #Hlev⟩, Hs⟩, Hbufs⟩
  iapply (body_runs m sw K c h fun _ => after m sw c)
  isplitl
  · unfold before
    isplitl [Hown Hc0 Hc2 Hs]
    · isplitr; · iexact HK
      isplitl [Hown]; · iexact Hown
      isplitl [Hc0]; · iexact Hc0
      isplitl [Hc2]; · iexact Hc2
      isplitr; · iexact Hlev
      iexact Hs
    · iexact Hbufs
  · iintro H; iexact H

end Run

end Cert.Exchange

end
-- ==== Proof.Run.lean ====
/-
# The launch and the run

The cells of every device are made invariants in one step, from the counters at zero and the protocol's launch state,
which device 0 carries there. The rights to raise are indexed by the device that pays, so nothing is dealt out twice.
From the bodies (`body_obligation`) the run follows: it ends, with every array at its final contents and every counter
at zero.
-/
module

public import proofs.«01_k».proof.Proof.Body
public import Idealize.ShloMosaic.Lib.Pipeline.CollectiveSegs

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ Extra ℕ

variable (m : (ℓ : Loc nD τ sig) → Buf (Elt F) ℓ) (ρ : Dev nD → PrngReg) (sw : Bool)

/-! ## The launch state -/

/-- Every device's three cells. -/
def cells : Finset (GSem nD τ sig) := Finset.univ.map
  ⟨fun p : Dev nD × Fin 3 => cell p.1 p.2, fun p q h => Prod.ext (cell_eq_iff.mp h).1 (cell_eq_iff.mp h).2⟩

/-- The rights to raise, by the device that pays and the role of the cell it pays. -/
def rights : Finset (GSem nD τ sig × ℕ × Unit) := Finset.univ.map
  ⟨fun p : Dev nD × Fin 3 => (payee p.1 p.2, 0, ()), fun p q h => by
    obtain ⟨c, k⟩ := p; obtain ⟨d, l⟩ := q
    obtain ⟨h1, rfl⟩ := cell_eq_iff.mp (congrArg Prod.fst h)
    refine Prod.ext ?_ rfl
    by_cases hk : k = 1
    · simpa only [if_pos hk] using h1
    · rw [if_neg hk, if_neg hk] at h1
      rw [← partner_partner c, ← partner_partner d, h1]⟩

/-- The protocol's launch state: the cells at round 0 and the rights. -/
def seed : Ghost := launchOf cells ∅ rights

/-- Device 0 brings it to the step that makes the invariants. -/
def brings (c : Dev nD) : sProp 𝕄 := if c = 0 then BI.own (gh seed) else iprop(emp)

/-- What a device has of the protocol after that step. -/
def has (c : Dev nD) : sProp 𝕄 := iprop((∃ K, known m sw K c) ∗ own c)

omit [FloatOps F] in
/-- One device holding something and the others nothing is that thing held. -/
theorem brings_all : (BI.own (gh seed) : sProp 𝕄) ⊢ bigSep Finset.univ (brings (F := F)) := by
  rw [bigSep_univ_at _ (0 : Dev nD)]
  iintro H
  isplitl
  · iapply (Entails.of_eq (show BI.own (gh seed) = brings 0 from (if_pos rfl).symm)); iexact H
  · iapply (BI.bigSep_intro_persistent (R := (iprop(emp) : sProp 𝕄)) (fun c hc => by
      unfold brings; rw [if_neg (Finset.ne_of_mem_erase hc)]))
    iempintro

omit [FloatOps F] in
/-- What all devices bring together is the protocol's launch state. -/
theorem brought : bigSep Finset.univ (brings (F := F)) ⊢ (BI.own (gh seed) : sProp 𝕄) := by
  rw [bigSep_univ_at _ (0 : Dev nD)]
  iintro ⟨H, -⟩
  iapply (Entails.of_eq (show brings 0 = BI.own (gh seed) from if_pos rfl)); iexact H

/-- The kernel's own semaphores, the two of the transfer. -/
abbrev mine : Fin 2 → SemLoc sig := fun | 0 => role 1 | 1 => role 2

/-- The kernel's own semaphores are two, and differ. -/
theorem mine_facts : Pipeline.OwnSemFacts cfg0.spec mine := by decide

omit [FloatOps F] in
/-- Their counters at zero are the send and the receive cell's. -/
theorem mine_zero (c : Dev nD) : (Pipeline.ownSems0 (Ix := Unit) (Name := ℕ) (U := Extra) (Lvl := ℕ) (Val := Elt F) (τ := τ) mine c : sProp 𝕄)
    = iprop(semVal (cell c 1) 0 ∗ semVal (cell c 2) 0) := by
  rw [Pipeline.ownSems0_eq_of_list c mine [0, 1] (by decide) (by decide)]; rfl

omit [FloatOps F] in
/-- The barrier is the one semaphore that outlives the kernel. -/
theorem barrier_zero (c : Dev nD) : (unscopedSems0 c : sProp 𝕄) = semVal (cell c 0) 0 := by
  unfold unscopedSems0; rw [bigSep_eq_bigSepL_of_eq [role 0] (by decide) (by decide)]; rfl

omit [FloatOps F] in
/-- A separating conjunction over three is three conjuncts. -/
theorem three (Φ : Fin 3 → sProp 𝕄) : bigSep Finset.univ Φ = iprop(Φ 0 ∗ Φ 1 ∗ Φ 2) :=
  bigSep_univ_eq_bigSepL [0, 1, 2] (by decide) (by decide) Φ

omit [FloatOps F] in
/-- A statement of every cell, device by device. -/
theorem by_device (Φ : GSem nD τ sig → sProp 𝕄) :
    bigSep cells Φ = bigSep Finset.univ fun c : Dev nD => iprop(Φ (cell c 0) ∗ Φ (cell c 1) ∗ Φ (cell c 2)) := by
  unfold cells; rw [bigSep_map, bigSep_univ_prod]
  exact bigSep_congr fun c _ => three fun k => Φ (cell c k)

omit [FloatOps F] in
/-- The rights, payer by payer. -/
theorem by_payer :
    bigSep rights (fun x => (dutyTok gh x.1 x.2.1 x.2.2 : sProp 𝕄))
      = bigSep Finset.univ fun c : Dev nD => iprop(dutyTok gh (payee c 0) 0 () ∗ dutyTok gh (payee c 1) 0 () ∗ dutyTok gh (payee c 2) 0 ()) := by
  unfold rights; rw [bigSep_map, bigSep_univ_prod]
  exact bigSep_congr fun c _ => three fun k => dutyTok gh (payee c k) 0 ()

/-- Every device's cell is one of the cells. -/
theorem mem_cells (c : Dev nD) (k : Fin 3) : cell c k ∈ cells := Finset.mem_map.mpr ⟨(c, k), Finset.mem_univ _, rfl⟩

omit [FloatOps F] in
/-- From all cells' invariants and all cells at round 0, what one device knows. -/
theorem known_of_all (κ : GSem nD τ sig → ℕ) (c : Dev nD) :
    iprop(bigSep cells (fun g => cellInv gh (plan m sw) (κ g) g) ∗ bigSep cells (fun g => reached gh g 0))
      ⊢ (known m sw (fun p => κ (cell p.1 p.2)) c : sProp 𝕄) := by
  have inv (d : Dev nD) (k : Fin 3) : bigSep cells (fun g => (cellInv gh (plan m sw) (κ g) g : sProp 𝕄)) ⊢ cellInv gh (plan m sw) (κ (cell d k)) (cell d k) :=
    bigSep_elim (mem_cells d k)
  have at0 (d : Dev nD) (k : Fin 3) : bigSep cells (fun g => (reached gh g 0 : sProp 𝕄)) ⊢ reached gh (cell d k) 0 := bigSep_elim (mem_cells d k)
  unfold known
  iintro ⟨#HI, #HR⟩
  isplitr; · iapply (inv c 0); iexact HI
  isplitr; · iapply (inv c 1); iexact HI
  isplitr; · iapply (inv c 2); iexact HI
  isplitr; · iapply (inv (partner c) 0); iexact HI
  isplitr; · iapply (inv (partner c) 2); iexact HI
  isplitr; · iapply (at0 c 1); iexact HR
  isplitr; · iapply (at0 c 2); iexact HR
  iapply (at0 (partner c) 0); iexact HR

omit [FloatOps F] in
/-- A device's semaphores at zero, the kernel's own and the barrier, are its cells at zero; -/
theorem zeros_at (c : Dev nD) :
    iprop(Pipeline.ownSems0 (Ix := Unit) (Name := ℕ) (U := Extra) (Lvl := ℕ) (Val := Elt F) (τ := τ) mine c ∗ unscopedSems0 c)
      ⊢ (iprop(semVal (cell c 0) 0 ∗ semVal (cell c 1) 0 ∗ semVal (cell c 2) 0) : sProp 𝕄) := by
  rw [mine_zero, barrier_zero]
  iintro ⟨⟨H1, H2⟩, H0⟩
  isplitl [H0]; · iexact H0
  isplitl [H1] <;> iassumption

omit [FloatOps F] in
/-- so all devices' are every cell at zero. -/
theorem zeros :
    iprop((bigSep Finset.univ fun c => Pipeline.ownSems0 (Ix := Unit) (Name := ℕ) (U := Extra) (Lvl := ℕ) (Val := Elt F) (τ := τ) mine c)
        ∗ bigSep Finset.univ fun c : Dev nD => unscopedSems0 c)
      ⊢ (bigSep cells (fun g => semVal g 0) : sProp 𝕄) := by
  rw [by_device, ← bigSep_sep']
  exact bigSep_mono fun c _ => zeros_at c

omit [FloatOps F] in
/-- What every device knows, where it is and its rights, put together. -/
theorem gathered :
    iprop((bigSep Finset.univ fun c : Dev nD => iprop(∃ K, known m sw K c))
        ∗ (bigSep Finset.univ fun c : Dev nD => iprop(atPos gh (cell c 0) 0 ∅ 0 ∗ atPos gh (cell c 1) 0 ∅ 0 ∗ atPos gh (cell c 2) 0 ∅ 0))
        ∗ bigSep Finset.univ fun c : Dev nD => iprop(dutyTok gh (payee c 0) 0 () ∗ dutyTok gh (payee c 1) 0 () ∗ dutyTok gh (payee c 2) 0 ()))
      ⊢ (bigSep Finset.univ (has m sw) : sProp 𝕄) := by
  rw [← bigSep_sep', ← bigSep_sep']
  exact Entails.of_eq rfl

/-- The step that makes every cell an invariant and gives each device its part. -/
theorem found :
    (bigSep Finset.univ fun c => iprop(Pipeline.ownSems0 (Ix := Unit) (Name := ℕ) (U := Extra) (Lvl := ℕ) (Val := Elt F) (τ := τ) mine c
        ∗ unscopedSems0 c ∗ brings c) : sProp 𝕄)
      ⊢ |={Set.univ}=> bigSep Finset.univ (has m sw) := by
  rw [bigSep_sep', bigSep_sep']
  iintro ⟨Hm, Hb, Hg⟩
  ihave Hz := (zeros (F := F)) $$ [Hm Hb]
  · isplitl [Hm] <;> iassumption
  ihave Hg := (brought (F := F)) $$ Hg
  imod (Rounds.fund_launch gh (plan m sw) (S := cells) (Sd := ∅) (Finset.disjoint_empty_right _) (fun _ h => absurd h (Finset.notMem_empty _)) rights) $$ [Hz Hg]
    with ⟨%κ, -, HI, HR, Hat, -, Ht⟩
  · isplitl [Hz]; · iexact Hz
    iexact Hg
  rw [Finset.union_empty]
  imodintro
  ihave Hat := (Entails.of_eq (by_device (F := F) fun g => atPos gh g 0 ∅ 0)) $$ Hat
  ihave Ht := (Entails.of_eq (by_payer (F := F))) $$ Ht
  iapply (gathered m sw)
  isplitl [HI HR]
  · iapply (BI.bigSep_intro_persistent (R := iprop(bigSep cells (fun g => cellInv gh (plan m sw) (κ g) g) ∗ bigSep cells (fun g => reached gh g 0)))
      (fun c _ => by iintro H; iexists _; iapply (known_of_all m sw κ c); iexact H))
    isplitl [HI] <;> iassumption
  isplitl [Hat] <;> iassumption

/-! ## What may be waited for at launch -/

omit [FloatOps F] in
/-- Over all devices, one unit is owed to a barrier, -/
theorem owed_barrier (d c : Dev nD) : debt₀ sw d (cell c 0) () = if d = partner c then 1 else 0 := by
  unfold debt₀ debt
  rw [Pi.add_apply, Finsupp.add_apply, tallyAt_ne_cell (fun e => absurd (cell_eq_iff.mp e).2 (by decide)), Finsupp.zero_apply, Nat.zero_add, tallyAt_apply]
  by_cases h : d = partner c
  · subst h; rw [partner_partner, if_pos ⟨rfl, rfl⟩, if_pos rfl]
  · rw [if_neg h, if_neg fun e => h (by rw [(cell_eq_iff.mp e.1).1, partner_partner])]

omit [FloatOps F] in
/-- and to a receive cell the credit of one block, if the blocks cross. -/
theorem owed_receive (d c : Dev nD) : debt₀ sw d (cell c 2) () = if d = partner c then (if sw then credit else 0) else 0 := by
  unfold debt₀ debt
  rw [Pi.add_apply, Finsupp.add_apply, tallyAt_ne_cell (g := cell (partner d) 0) (fun e => absurd (cell_eq_iff.mp e).2 (by decide)), Finsupp.zero_apply, Nat.add_zero,
    tallyAt_apply]
  by_cases h : d = partner c
  · subst h; rw [partner_partner, if_pos ⟨rfl, rfl⟩, if_pos rfl]
  · rw [if_neg h, if_neg fun e => h (by rw [(cell_eq_iff.mp e.1).1, partner_partner])]

omit [FloatOps F] in
/-- What all devices together owe a cell, when only `c`'s partner owes it anything. -/
theorem total_owed (c : Dev nD) (k : Fin 3) (n : ℕ) (h : ∀ d, debt₀ sw d (cell c k) () = if d = partner c then n else 0) :
    tallyOn (cell c k) (launchCredit (Pipeline.owing (debt₀ sw)) 0 (cell c k)) = (tallyAt (cell c k) () n : CellTallies nD τ sig Unit) := by
  unfold tallyAt
  refine congrArg _ (Finsupp.ext fun u => ?_)
  cases u
  rw [Pipeline.launchCredit_owing, Finsupp.single_eq_same, Finset.sum_congr rfl fun d _ => h d, Finset.sum_ite_eq' Finset.univ (partner c) fun _ => n,
    if_pos (Finset.mem_univ _)]

omit [FloatOps F] in
/-- A device's waits for its barrier and for its receive cell are covered. -/
theorem covered (c : Dev nD) :
    (Pipeline.launchCred (debt₀ sw) c : sProp 𝕄)
      ⊢ iprop(cred (tallyAt (cell c 0) () 1) ∗ cred (tallyAt (cell c 2) () (if sw then credit else 0))) := by
  rw [← total_owed sw c 0 _ fun d => owed_barrier sw d c, ← total_owed sw c 2 _ fun d => owed_receive sw d c]
  unfold Pipeline.launchCred
  rw [bigSep_univ_at _ (role 0)]
  exact sep_mono_right (bigSep_elim (Finset.mem_erase.mpr ⟨role_ne (k := 2) (l := 0) (by decide), Finset.mem_univ _⟩))

/-! ## The run -/

/-- What a device starts its kernel with, from what the launch and the step above leave it. -/
theorem begins (c : Dev nD) :
    iprop(Pipeline.unscopedRestP Pipeline.Prefetch.none cfg0.spec c (fun b => m ((c : Thread nD τ).loc b)) ∗ levAts idx level
        ∗ Pipeline.launchCred (debt₀ sw) c ∗ prngReg c (ρ c) ∗ has m sw c)
      ⊢ |={Set.univ}=> iprop(start m sw c ∗ emp) := by
  unfold has
  iintro ⟨-, Hl, Hc, -, ⟨HK, Hown⟩⟩
  ihave Hc := (covered (F := F) sw c) $$ Hc
  icases Hc with ⟨H0, H2⟩
  imodintro
  unfold start
  isplitl
  · isplitl [HK]; · iexact HK
    isplitl [Hown]; · iexact Hown
    isplitl [H0]; · iexact H0
    isplitl [H2]; · iexact H2
    iexact Hl
  · iempintro

/-- With the send buffer, it is what the body starts from; -/
theorem enters (c : Dev nD) :
    iprop(start m sw c ∗ Pipeline.prefHeld Pipeline.Prefetch.none c (fun _ => fullShare.right) (fun k => k.elim0) ∗ Pipeline.scopedRest cfg0.spec c)
      ⊢ (data m sw 0 c).Φ 0 := by
  show _ ⊢ enter m sw c
  rw [scopedRest0_eq]
  unfold enter
  iintro ⟨Hs, -, ⟨%f, Hr⟩⟩
  isplitl [Hs]; · iexact Hs
  iexists f; rw [sendAt_whole]; iexact Hr

/-- and what the body leaves is the counters at zero and the send buffer. -/
theorem exits (c : Dev nD) :
    (data m sw 0 c).Φ (Fin.last cfg0.N) ⊢ iprop(unscopedSems0 c ∗ Pipeline.ownSems0 mine c ∗ Pipeline.scopedRest cfg0.spec c) := by
  show leave c ⊢ _
  rw [scopedRest0_eq, mine_zero, barrier_zero]
  unfold leave
  iintro ⟨⟨%f, Hr⟩, H1, H2, H0⟩
  isplitl [H0]; · iexact H0
  isplitl [H1 H2]
  · isplitl [H1] <;> iassumption
  iexists f; rw [← sendAt_whole]; iexact Hr

/-- The staging waits of the whole kernel may be made. -/
theorem stage_waits (c : Dev nD) : (levAts idx level : sProp 𝕄) ⊢ Pipeline.cellsWaits cfgs (data m sw) () 0 c :=
  Pipeline.cellsWaits_intro cfgs (data m sw) () 0 c fun w s t => by
    have hs : SemLoc.dma (((cfgs 0).win w).sem s) ≠ role 2 := by fin_cases w <;> fin_cases s <;> decide
    rcases t with ⟨_ | _, _⟩
    · exact stage_wait sw c _ hs
    · show _ ⊢ MayWait _ _ _ 0
      rw [MayWait_zero]; iintro -; iempintro

/-- Every share of an array is the full one. -/
theorem shares (c : Dev nD) (w : Fin cfg0.W) : (data m sw 0 c).share w = fullShare := by
  unfold Pipeline.Dat.share; split <;> rfl

set_option maxRecDepth 8000 in
/-- Under either routing, from any memory with every counter at zero: every weakly fair execution of the 32 devices ends,
    with each device's arrays at their final contents and every counter at zero again. -/
theorem run (h : Routed m sw) :
    θ_run defs (onTc (τ := τ) (main (F := F))) ⟨m, fun _ => 0, ρ⟩ (fun r =>
      (∀ (c : Dev nD) (w : Fin cfg0.W), r.2.mem ((cfg0.win w).arr.view.loc (c : Thread nD τ)) = (data m sw 0 c).arrAt w cfg0.N)
      ∧ r.2.sem = fun _ => 0) :=
  Pipeline.θ_run_region_owing_glob_pf (fun p => (cfgs p).toPCfg) (fun p => (cfgs p).toPCfg_adm) (data m sw) () cellOf_inj (0 : Fin 1)
    winFacts0.to₀ mine_facts (Pipeline.PreFacts.none _) (embL : Emb (UR sig nD τ) 𝕄) defs₀ noVar m ρ main
    (hmain := fun _ => rfl)
    (hbody := fun c => (body_obligation m sw h c).loose) (hne := fun w => by fin_cases w <;> exact Nat.succ_pos _) (harr := arr_whole0) (hstage := stage_whole0)
    (hshare := shares m sw) (hdistinct := winFacts0.arr_inj)
    (O₀ := debt₀ sw) (howed₀ := fun _ => rfl) (howedN := fun _ => rfl)
    (L := idx) (lv := level) (hL := fun g hg => if_neg hg) (hwaits := stage_waits m sw)
    (G := brings) (G' := has m sw) (u₀ := (initOf (Pipeline.cells cfgs cellOf_inj) (Pipeline.launchToks cfgs cellOf_inj), seed))
    (hu₀ := by
      iintro Hu
      ihave H := (ownU_pair _ _) $$ Hu
      icases H with ⟨HP, HX⟩
      imodintro
      isplitl [HP]; · iexact HP
      iapply (brings_all (F := F)); iexact HX)
    (hglob := found m sw)
    (hA := fun _ _ => rfl) (hpf := fun _ k => k.elim0)
    (X := start m sw) (Y := fun c => unscopedSems0 c) (Z := fun _ => iprop(emp))
    (hX := begins m ρ sw) (hin := enters m sw) (hout := exits m sw)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ hm hs => ⟨fun c w => (hm c).1 w, sem_eq_zero hs fun c => (hm c).2.2⟩)

end Cert.Exchange

end
-- ==== Proof.Value.lean ====
/-
# What the kernel leaves

The run's final arrays, read: both arguments as they were, and in the result the block the device was to receive. Then
the two preconditions, as the routes they give.
-/
module

public import proofs.«01_k».proof.Defs
public import proofs.«01_k».proof.Proof.Run

@[expose] public section

noncomputable section

namespace Cert.Exchange

open Cert.KernelIdeal Cert.KernelIdeal.Gen
open Idealize.ShloMosaic Idealize.ShloMosaic.TcCoe
open Idealize.SL.Sem

variable {F : FTy → Type} [FloatOps F]
variable (m : (ℓ : Loc nD τ sig) → Buf (Elt F) ℓ) (ρ : Dev nD → PrngReg) (sw : Bool)

/-! ## The final arrays -/

/-- The first window's one block is the whole argument. -/
theorem blockIn_eq (c : Dev nD) : blockIn m c = m ((c : Thread nD τ).loc main_arg0) :=
  Memref.read_access_unit_zero (Elt F) main_arg0 (funext fun a => by fin_cases a <;> decide)
    (fun a => by fin_cases a <;> decide) _

/-- The result array ends as the argument of the device whose block is due there. -/
theorem final_out (c : Dev nD) :
    (data m sw 0 c).arrAt 2 cfg0.N = m ((origin sw c : Thread nD τ).loc main_arg0) := by
  have whole := fun f => Memref.read_access_unit_zero (Elt F) main_v1
    (off := fun a => win0_2.index (0 : Fin 1) a * main_v1.ty.shape.size a)
    (funext fun a => by fin_cases a <;> decide) (fun a => by fin_cases a <;> decide) f
  refine (whole _).symm.trans (Eq.trans ?_ (blockIn_eq m (origin sw c)))
  have step := (data m sw 0 c).arrAt_succ (2 : Fin 3) (0 : Fin 1)
  rw [if_pos (show (cfg0.win (2 : Fin 3)).flush (0 : Fin 1) = true by decide)] at step
  rw [show cfg0.N = ((0 : Fin 1) : Fin cfg0.N).val + 1 from rfl, step]
  exact View.read_write_univ _ _

/-- On routed devices the kernel ends; each device's arguments are as they were, its result is the block due to it, and
every counter is zero. -/
theorem ends (h : Routed m sw) :
    θ_run defs (onTc (τ := τ) (main (F := F))) ⟨m, fun _ => 0, ρ⟩ fun r =>
      (∀ c : Dev nD,
        r.2.mem ((c : Thread nD τ).loc main_v1) = m ((origin sw c : Thread nD τ).loc main_arg0)
        ∧ r.2.mem ((c : Thread nD τ).loc main_arg0) = m ((c : Thread nD τ).loc main_arg0)
        ∧ r.2.mem ((c : Thread nD τ).loc main_arg1) = m ((c : Thread nD τ).loc main_arg1))
      ∧ r.2.sem = fun _ => 0 :=
  (θ_run defs _ _).mono (fun _ hr => ⟨fun c =>
      ⟨(hr.1 c 2).trans (final_out m sw c), (hr.1 c 0).trans ((data m sw 0 c).arrAt_in 0 rfl _),
        (hr.1 c 1).trans ((data m sw 0 c).arrAt_in 1 rfl _)⟩, hr.2⟩)
    (run m ρ sw h)

/-- The same, of the arguments and the counters alone. -/
theorem quiet (h : Routed m sw) :
    θ_run defs (onTc (τ := τ) (main (F := F))) ⟨m, fun _ => 0, ρ⟩ fun r =>
      (∀ c : Dev nD, r.2.mem ((c : Thread nD τ).loc main_arg0) = m ((c : Thread nD τ).loc main_arg0)
        ∧ r.2.mem ((c : Thread nD τ).loc main_arg1) = m ((c : Thread nD τ).loc main_arg1))
      ∧ r.2.sem = fun _ => 0 :=
  (θ_run defs _ _).mono (fun _ hr => ⟨fun c => (hr.1 c).2, hr.2⟩) (ends m ρ sw h)

/-! ## The preconditions -/

/-- A word comparison that answers 1 compares equal words. -/
theorem eq_of_cmpi (a b : BitVec 32) (h : IntOp.cmpi .eq a b = 1#1) : a = b := by
  have one : ∀ p : Bool, BitVec.ofBool p = 1#1 → p = true := by decide
  exact eq_of_beq (one _ h)

/-- A table that passes `swapped` sends each block across. -/
theorem swapped_dest (x : FVec F S1x256x256 .bf16) (t : IVec S2 32)
    (h : Cert.Pre_swapped_Kernel.fn x t = fun _ => 1#1) (i : S2.Idx) :
    t i = dest true (i 0).val :=
  (eq_of_cmpi (t i) _ (congrFun h i)).trans (by clear h; revert i; decide)

/-- A table that passes `in_place` leaves each block where it is. -/
theorem in_place_dest (x : FVec F S1x256x256 .bf16) (t : IVec S2 32)
    (h : Cert.Pre_in_place_Kernel.fn x t = fun _ => 1#1) (i : S2.Idx) :
    t i = dest false (i 0).val :=
  (eq_of_cmpi (t i) _ (congrFun h i)).trans (by clear h; revert i; decide)

end Cert.Exchange

end
-- ==== Proof.RefValue.lean ====
/-
# What the reference leaves

The reference sorts the table with its positions, picks the rows of the whole array the sorted positions name, and
casts up and back. For a table of two rows that crosses or keeps them, the sorted positions are the table itself: the
result is the whole array with its two rows crossed, or the array.
-/
module

public import proofs.«01_k».proof.Defs
public import proofs.«01_k».proof.Proof.Protocol
public import proofs.«01_k».proof.Proof.Gen.ReferenceIdeal.Run

@[expose] public section

noncomputable section

namespace Cert.Exchange.Reference

open Cert.ReferenceIdeal Cert.ReferenceIdeal.Gen
open Idealize.ShloMosaic Idealize.ShloMosaic.TcCoe
open Idealize.SL.Sem

/-! ## The positions -/

/-- The positions the table sorts to. -/
def sorted (t : IVec S2 32) : IVec S2 32 := (Host.sort2 S2 0 comparator_i32_i32_d0 t (iotaInDim S2 32 0)).2

/-- The rows to pick: a negative position would count from the end. -/
def rows (t : IVec S2 32) : IVec S2 32 :=
  select (cmpi .slt (sorted t) (broadcastInDim S2 ![] bcast_S_S2 (constantI S_ 32 0#32)))
    (addi (sorted t) (broadcastInDim S2 ![] bcast_S_S2 (constantI S_ 32 2#32))) (sorted t)

/-- The table of the two rows' destinations. -/
def table (sw : Bool) : IVec S2 32 := fun i => dest sw (i 0).val

/-- Two rows crossed, or kept, sort to themselves. -/
theorem rows_table (sw : Bool) (i : S2.Idx) : rows (table sw) i = dest sw (i 0).val := by
  revert sw i; decide

/-! ## The rows picked -/

/-- The row whose elements end in row `r`. -/
def other (sw : Bool) (r : Fin 2) : Fin 2 := if sw then r.rev else r

/-- Where an element of the result comes from. -/
def source (sw : Bool) (j : S2x256x256.Idx) : S2x256x256.Idx := Function.update j 0 (other sw (j 0))

/-- The number of the row an element is in, as an index of the table. -/
def row (j : S2x256x256.Idx) : S2.Idx := fun a => ⟨(j 0).val, by fin_cases a; exact (j 0).isLt⟩

/-- A destination read as a row number, capped to the two rows, is the row the elements come from. -/
theorem dest_other (sw : Bool) (r : Fin 2) : min (dest sw r.val).toInt.toNat 1 = (other sw r).val := by
  revert sw r; decide

/-- The gather by the rows to pick reads each element at its source. -/
theorem gather_rows (sw : Bool) {α : Type} (x : S2x256x256.Idx → α) (j : S2x256x256.Idx) :
    Host.gather gather_S2x256x256_S2x1_S2x256x256_12_0_n_n_0_1_1256256 x
      (broadcastInDim S2x1 ![0] bcast_S2_S2x1_0 (rows (table sw))) j = x (source sw j) := by
  refine congrArg x (funext fun a => Fin.ext ?_)
  match a with
  | ⟨0, _⟩ =>
    refine Eq.trans ?_ (dest_other sw (j 0))
    refine Eq.trans ?_ (congrArg (fun w : BitVec 32 => min w.toInt.toNat 1) (rows_table sw (row j)))
    generalize rows (table sw) = t
    show min (t _).toInt.toNat 1 + 0 + 0 = _
    refine congrArg (fun k : S2.Idx => min (t k).toInt.toNat 1) (funext fun b => Fin.ext ?_)
    fin_cases b
    rfl
  | ⟨1, _⟩ => exact Nat.zero_add _
  | ⟨2, _⟩ => exact Nat.zero_add _

/-- Over the ideal numbers a cast up and back changes nothing. -/
theorem up_and_back (v : FVec Ideal S2x256x256 .bf16) :
    truncf .bf16 (extf .f32 v bitsLt_bf16_f32) bitsLt_bf16_f32 = v := rfl

/-- The rows picked by a table that crosses or keeps them, cast up and back. -/
theorem picked (sw : Bool) (x : FVec Ideal S2x256x256 .bf16) (t : IVec S2 32) (h : t = table sw) :
    truncf .bf16 (extf .f32 (Host.gather gather_S2x256x256_S2x1_S2x256x256_12_0_n_n_0_1_1256256 x
      (broadcastInDim S2x1 ![0] bcast_S2_S2x1_0 (rows t))) bitsLt_bf16_f32) bitsLt_bf16_f32
      = fun j => x (source sw j) := by
  rw [up_and_back, h]
  exact funext fun j => gather_rows sw x j

/-- What the reference leaves of a whole array: the array with its rows crossed, or kept. -/
theorem ends (m : (ℓ : Loc nD τ sig) → Buf (Elt Ideal) ℓ) (ρ : Dev nD → PrngReg) (sw : Bool)
    (h : (m (((0 : Dev nD).tc : Thread nD τ).loc main_arg1) : IVec S2 32) = table sw) :
    θ_run defs (onTc (τ := τ) (main (F := Ideal))) ⟨m, fun _ => 0, ρ⟩ fun r =>
      r.2.mem (((0 : Dev nD).tc : Thread nD τ).loc main_v9)
          = (fun j => (m (((0 : Dev nD).tc : Thread nD τ).loc main_arg0) : FVec Ideal S2x256x256 .bf16) (source sw j))
        ∧ r.2.mem (((0 : Dev nD).tc : Thread nD τ).loc main_arg0) = m (((0 : Dev nD).tc : Thread nD τ).loc main_arg0)
        ∧ r.2.mem (((0 : Dev nD).tc : Thread nD τ).loc main_arg1) = m (((0 : Dev nD).tc : Thread nD τ).loc main_arg1) :=
  (θ_run defs _ _).mono (fun _ hr =>
      ⟨(hr 0).1.trans (picked sw (m (((0 : Dev nD).tc : Thread nD τ).loc main_arg0)) _ h), (hr 0).2⟩)
    (Value.run m ρ)

/-- The reference ends with its arguments as they were and every counter zero: it has none. -/
theorem quiet (m : (ℓ : Loc nD τ sig) → Buf (Elt Ideal) ℓ) (ρ : Dev nD → PrngReg) :
    θ_run defs (onTc (τ := τ) (main (F := Ideal))) ⟨m, fun _ => 0, ρ⟩ fun r =>
      (∀ c : Dev nD, r.2.mem (c.tc.loc main_arg0) = m (c.tc.loc main_arg0)
        ∧ r.2.mem (c.tc.loc main_arg1) = m (c.tc.loc main_arg1)) ∧ r.2.sem = fun _ => 0 :=
  (θ_run defs _ _).mono (fun r hr => ⟨fun c => (hr c).2, sem_eq_zero_of_no_sems (by decide) r.2⟩) (Value.run m ρ)

/-! ## Blocks -/

/-- A device's block number: its coordinate on the mesh's first axis. -/
theorem blockNo_origin (sw : Bool) (c : Dev Cert.KernelIdeal.nD) :
    (other sw ⟨Layout.meshLin [2, 4, 4] c.val [0], by revert c; decide⟩).val
      = Layout.meshLin [2, 4, 4] (origin sw c).val [0] := by
  revert sw c; decide

/-- A device's block of the crossed (or kept) rows is the block of the whole array held by the device whose block is due
to it. -/
theorem block_source {α : Type} (sw : Bool) (c : Dev Cert.KernelIdeal.nD) (x : S2x256x256.Idx → α) :
    Layout.blockN ⟨3, ![1, 256, 256]⟩ ⟨3, ![2, 256, 256]⟩ (Layout.meshBlock [2, 4, 4] ![[0], [], []] c)
        (fun j => x (source sw j))
      = Layout.blockN ⟨3, ![1, 256, 256]⟩ ⟨3, ![2, 256, 256]⟩ (Layout.meshBlock [2, 4, 4] ![[0], [], []] (origin sw c)) x := by
  funext i
  refine congrArg x (funext fun a => Fin.ext ?_)
  have hi : (i 0).val = 0 := Nat.lt_one_iff.mp (i 0).isLt
  match a with
  | ⟨0, _⟩ =>
    refine Eq.trans (congrArg (fun r : Fin 2 => (other sw r).val) (Fin.ext ?_)) ((blockNo_origin sw c).trans ?_)
    · show Layout.meshLin [2, 4, 4] c.val [0] * 1 + (i 0).val = _
      rw [hi, Nat.mul_one, Nat.add_zero]
    · show _ = Layout.meshLin [2, 4, 4] (origin sw c).val [0] * 1 + (i 0).val
      rw [hi, Nat.mul_one, Nat.add_zero]
  | ⟨1, _⟩ => rfl
  | ⟨2, _⟩ => rfl

end Cert.Exchange.Reference

end
-- ==== Proof.lean ====
/-
# The proof of the claim

The kernel and its ideal reading have one text, so its run (`Cert.Exchange.ends`) is proved once, over any numbers, and
read at the bit patterns for the kernel and at the ideal numbers for its ideal reading. Each precondition says what the
table is, and so where the blocks go. The reference's result is the whole array with its rows crossed or kept
(`Cert.Exchange.Reference.ends`); a device's block of it is what the kernel leaves on the device.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_swapped_Kernel
public import proofs.«01_k».proof.Proof.Gen.Pre_in_place_Kernel
public import proofs.«01_k».proof.Proof.Gen.Pre_swapped_ReferenceIdeal
public import proofs.«01_k».proof.Proof.Gen.Pre_in_place_ReferenceIdeal
public import proofs.«01_k».proof.Proof.Value
public import proofs.«01_k».proof.Proof.RefValue

@[expose] public section

noncomputable section

namespace Cert.Proof

open Idealize.ShloMosaic Idealize.SL.Sem Cert.Exchange

/-! ## Frames -/

/-- The two texts' body tables name the same body. -/
theorem same_body {F : FTy → Type} [FloatOps F] : Cert.Kernel.defs₀ (F := F) = Cert.KernelIdeal.defs₀ := by
  unfold Cert.Kernel.defs₀ Cert.KernelIdeal.defs₀
  refine congrArg Defs.onTc (funext fun l => funext fun a => ?_)
  match l, a with
  | 0, (_, _) => rfl

/-- The two texts run by the same table. -/
theorem same_table {F : FTy → Type} [FloatOps F] : Cert.Kernel.defs (F := F) = Cert.KernelIdeal.defs :=
  congrArg (Pipeline.defs Cert.KernelIdeal.pcfgs) same_body

/-- The kernel on crossing blocks: it ends, its arguments as they were, every counter zero. -/
theorem frame_kernel_swapped : Cert.quiescent_Kernel := by
  intro m ρ h
  have ended := quiet (F := Bits) m ρ true fun c => swapped_dest _ _ (h c)
  rw [same_table]
  exact ended

/-- The kernel on blocks that stay: the same. -/
theorem frame_kernel_in_place : Cert.quiescent_Kernel_pre_in_place_Kernel := by
  intro m ρ h
  have ended := quiet (F := Bits) m ρ false fun c => in_place_dest _ _ (h c)
  rw [same_table]
  exact ended

/-- The kernel's ideal reading on crossing blocks: the same. -/
theorem frame_ideal_swapped : Cert.quiescent_KernelIdeal := fun m ρ h =>
  quiet (F := Ideal) m ρ true fun c => swapped_dest _ _ (h c)

/-- The kernel's ideal reading on blocks that stay: the same. -/
theorem frame_ideal_in_place : Cert.quiescent_KernelIdeal_pre_in_place_Kernel := fun m ρ h =>
  quiet (F := Ideal) m ρ false fun c => in_place_dest _ _ (h c)

/-! ## The value -/

open Cert.KernelIdeal in
/-- From routed devices that hold their blocks of a whole array, and the table: the kernel leaves on each device its block
of what the reference leaves. -/
theorem agree (sw : Bool)
    (m : (ℓ : Loc nD τ sig) → Buf (Elt Ideal) ℓ) (ρ : Dev nD → PrngReg)
    (m' : (ℓ : Loc Cert.ReferenceIdeal.nD Cert.ReferenceIdeal.τ Cert.ReferenceIdeal.sig) → Buf (Elt Ideal) ℓ)
    (ρ' : Dev Cert.ReferenceIdeal.nD → PrngReg) (h : Routed m sw)
    (held : ∀ c : Dev nD,
      m (c.tc.loc main_arg0) = Layout.blockN ⟨3, ![1, 256, 256]⟩ ⟨3, ![2, 256, 256]⟩
          (Layout.meshBlock [2, 4, 4] ![[0], [], []] c)
          (m' ((0 : Dev Cert.ReferenceIdeal.nD).tc.loc Cert.ReferenceIdeal.main_arg0))
      ∧ m (c.tc.loc main_arg1) = m' ((0 : Dev Cert.ReferenceIdeal.nD).tc.loc Cert.ReferenceIdeal.main_arg1)) :
    ∃ v : Buf (Elt Ideal) ((0 : Dev Cert.ReferenceIdeal.nD).tc.loc Cert.ReferenceIdeal.main_v9),
      θ_run (defs (F := Ideal)) (onTc (τ := τ) (main (F := Ideal))) ⟨m, fun _ => 0, ρ⟩ (fun r => ∀ c : Dev nD,
        r.2.mem (c.tc.loc main_v1) = Layout.blockN ⟨3, ![1, 256, 256]⟩ ⟨3, ![2, 256, 256]⟩
            (Layout.meshBlock [2, 4, 4] ![[0], [], []] c) v
          ∧ r.2.mem (c.tc.loc main_arg0) = m (c.tc.loc main_arg0)
          ∧ r.2.mem (c.tc.loc main_arg1) = m (c.tc.loc main_arg1))
      ∧ θ_run (Cert.ReferenceIdeal.defs (F := Ideal)) (onTc (τ := Cert.ReferenceIdeal.τ) (Cert.ReferenceIdeal.main (F := Ideal)))
          ⟨m', fun _ => 0, ρ'⟩ (fun r =>
        r.2.mem ((0 : Dev Cert.ReferenceIdeal.nD).tc.loc Cert.ReferenceIdeal.main_v9) = v
          ∧ r.2.mem ((0 : Dev Cert.ReferenceIdeal.nD).tc.loc Cert.ReferenceIdeal.main_arg0)
              = m' ((0 : Dev Cert.ReferenceIdeal.nD).tc.loc Cert.ReferenceIdeal.main_arg0)
          ∧ r.2.mem ((0 : Dev Cert.ReferenceIdeal.nD).tc.loc Cert.ReferenceIdeal.main_arg1)
              = m' ((0 : Dev Cert.ReferenceIdeal.nD).tc.loc Cert.ReferenceIdeal.main_arg1)) := by
  have table : (m' ((0 : Dev Cert.ReferenceIdeal.nD).tc.loc Cert.ReferenceIdeal.main_arg1) : IVec Cert.ReferenceIdeal.S2 32)
      = Reference.table sw := (held 0).2.symm.trans (funext fun i => h 0 i)
  refine ⟨_, ?_, Reference.ends m' ρ' sw table⟩
  refine (θ_run _ _ _).mono (fun r hr c => ⟨?_, (hr.1 c).2⟩) (ends (F := Ideal) m ρ sw h)
  exact (hr.1 c).1.trans ((held (origin sw c)).1.trans (Reference.block_source sw c _).symm)

/-! ## The claim -/

/-- Everything claimed. -/
theorem claim : Cert.Claim :=
  ⟨Cert.Kernel.Gen.facts, Cert.KernelIdeal.Gen.facts, Cert.ReferenceIdeal.Gen.facts,
    Cert.Pre_swapped_Kernel.Gen.facts, Cert.Pre_in_place_Kernel.Gen.facts,
    Cert.Pre_swapped_ReferenceIdeal.Gen.facts, Cert.Pre_in_place_ReferenceIdeal.Gen.facts,
    frame_kernel_swapped, frame_kernel_in_place, frame_ideal_swapped, frame_ideal_in_place,
    fun m ρ _ => Reference.quiet m ρ, fun m ρ _ => Reference.quiet m ρ, fun m ρ _ => Reference.quiet m ρ,
    trivial,
    fun m ρ m' ρ' h held => agree true m ρ m' ρ' (fun c => swapped_dest _ _ (h c)) held,
    fun m ρ m' ρ' h held => agree false m ρ m' ρ' (fun c => in_place_dest _ _ (h c)) held⟩

end Cert.Proof

end
